-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v128)) (v1 : (c : Dev Cert.KernelIdeal.nD) → Buf (Elt Ideal) ((c.tc : Thread Cert.KernelIdeal.nD Cert.KernelIdeal.τ).loc Cert.KernelIdeal.main_values)) (v2 : (c : Dev Cert.KernelIdeal.nD) → Buf (Elt Ideal) ((c.tc : Thread Cert.KernelIdeal.nD Cert.KernelIdeal.τ).loc Cert.KernelIdeal.main_indices)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v128) = v0 c
          ∧ r.2.mem ((c.tc : Thread Cert.KernelIdeal.nD Cert.KernelIdeal.τ).loc Cert.KernelIdeal.main_values) = v1 c
          ∧ r.2.mem ((c.tc : Thread Cert.KernelIdeal.nD Cert.KernelIdeal.τ).loc Cert.KernelIdeal.main_indices) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_values) = v1 c
          ∧ r.2.mem ((c.tc : Thread Cert.ReferenceIdeal.nD Cert.ReferenceIdeal.τ).loc Cert.ReferenceIdeal.main_indices) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384 : Shape := ⟨1, ![16384]⟩
abbrev S16384x50 : Shape := ⟨2, ![16384, 50]⟩
abbrev S100000x128 : Shape := ⟨2, ![100000, 128]⟩
abbrev S1000x128 : Shape := ⟨2, ![1000, 128]⟩
abbrev S_ : Shape := ⟨0, ![]⟩
abbrev S16384x128 : Shape := ⟨2, ![16384, 128]⟩
abbrev S16384x50x128 : Shape := ⟨3, ![16384, 50, 128]⟩
abbrev S16384x1 : Shape := ⟨2, ![16384, 1]⟩
abbrev S1 : Shape := ⟨1, ![1]⟩
abbrev S1x1 : Shape := ⟨2, ![1, 1]⟩
abbrev S16384x50x1 : Shape := ⟨3, ![16384, 50, 1]⟩
abbrev S1x1x1 : Shape := ⟨3, ![1, 1, 1]⟩
abbrev S16384x1x128 : Shape := ⟨3, ![16384, 1, 128]⟩
abbrev S819200 : Shape := ⟨1, ![819200]⟩
abbrev S819200x128 : Shape := ⟨2, ![819200, 128]⟩
abbrev S819200x1 : Shape := ⟨2, ![819200, 1]⟩
abbrev S100000x1 : Shape := ⟨2, ![100000, 1]⟩
abbrev S400x128 : Shape := ⟨2, ![400, 128]⟩
abbrev S400x1 : Shape := ⟨2, ![400, 1]⟩
abbrev S400x120 : Shape := ⟨2, ![400, 120]⟩
abbrev S400x8 : Shape := ⟨2, ![400, 8]⟩
abbrev S400x112 : Shape := ⟨2, ![400, 112]⟩
abbrev S400x16 : Shape := ⟨2, ![400, 16]⟩
abbrev S400x104 : Shape := ⟨2, ![400, 104]⟩
abbrev S400x24 : Shape := ⟨2, ![400, 24]⟩
abbrev S400x96 : Shape := ⟨2, ![400, 96]⟩
abbrev S400x32 : Shape := ⟨2, ![400, 32]⟩
abbrev S400x88 : Shape := ⟨2, ![400, 88]⟩
abbrev S400x40 : Shape := ⟨2, ![400, 40]⟩
abbrev S400x80 : Shape := ⟨2, ![400, 80]⟩
abbrev S400x48 : Shape := ⟨2, ![400, 48]⟩
abbrev S400x72 : Shape := ⟨2, ![400, 72]⟩
abbrev S400x56 : Shape := ⟨2, ![400, 56]⟩
abbrev S400x64 : Shape := ⟨2, ![400, 64]⟩
abbrev S400x124 : Shape := ⟨2, ![400, 124]⟩
abbrev S400x4 : Shape := ⟨2, ![400, 4]⟩
abbrev S400x126 : Shape := ⟨2, ![400, 126]⟩
abbrev S400x2 : Shape := ⟨2, ![400, 2]⟩
abbrev S400x127 : Shape := ⟨2, ![400, 127]⟩
abbrev S100000 : Shape := ⟨1, ![100000]⟩

abbrev nBuf : Space → Nat
  | .hbm => 364
  | .vmem => 4
  | .smem => 0
  | _ => 0

abbrev hbmTy0_0 (i : Nat) : BufTy := match i % 128 with
  | 0 => ⟨S16384, .i32⟩
  | 1 => ⟨S16384, .i32⟩
  | 2 => ⟨S16384, .i32⟩
  | 3 => ⟨S16384x50, .i32⟩
  | 4 => ⟨S100000x128, .f32⟩
  | 5 => ⟨S1000x128, .f32⟩
  | 6 => ⟨S_, .f32⟩
  | 7 => ⟨S16384x128, .f32⟩
  | 8 => ⟨S_, .f32⟩
  | 9 => ⟨S16384x128, .f32⟩
  | 10 => ⟨S_, .f32⟩
  | 11 => ⟨S16384x50x128, .f32⟩
  | 12 => ⟨S_, .i32⟩
  | 13 => ⟨S16384, .i32⟩
  | 14 => ⟨S16384, .i1⟩
  | 15 => ⟨S_, .i32⟩
  | 16 => ⟨S16384, .i32⟩
  | 17 => ⟨S16384, .i32⟩
  | 18 => ⟨S16384, .i32⟩
  | 19 => ⟨S16384x1, .i32⟩
  | 20 => ⟨S1, .i32⟩
  | 21 => ⟨S_, .i32⟩
  | 22 => ⟨S16384x1, .i32⟩
  | 23 => ⟨S16384x1, .i1⟩
  | 24 => ⟨S1x1, .i32⟩
  | 25 => ⟨S16384x1, .i32⟩
  | 26 => ⟨S16384x1, .i1⟩
  | 27 => ⟨S16384x1, .i1⟩
  | 28 => ⟨S_, .i1⟩
  | 29 => ⟨S16384, .i1⟩
  | 30 => ⟨S16384x128, .f32⟩
  | 31 => ⟨S16384x128, .i1⟩
  | 32 => ⟨S_, .f32⟩
  | 33 => ⟨S16384x128, .f32⟩
  | 34 => ⟨S16384x128, .f32⟩
  | 35 => ⟨S16384x128, .f32⟩
  | 36 => ⟨S_, .i32⟩
  | 37 => ⟨S16384, .i32⟩
  | 38 => ⟨S16384, .i1⟩
  | 39 => ⟨S_, .i32⟩
  | 40 => ⟨S16384, .i32⟩
  | 41 => ⟨S16384, .i32⟩
  | 42 => ⟨S16384, .i32⟩
  | 43 => ⟨S16384x1, .i32⟩
  | 44 => ⟨S1, .i32⟩
  | 45 => ⟨S_, .i32⟩
  | 46 => ⟨S16384x1, .i32⟩
  | 47 => ⟨S16384x1, .i1⟩
  | 48 => ⟨S1x1, .i32⟩
  | 49 => ⟨S16384x1, .i32⟩
  | 50 => ⟨S16384x1, .i1⟩
  | 51 => ⟨S16384x1, .i1⟩
  | 52 => ⟨S_, .i1⟩
  | 53 => ⟨S16384, .i1⟩
  | 54 => ⟨S16384x128, .f32⟩
  | 55 => ⟨S16384x128, .i1⟩
  | 56 => ⟨S_, .f32⟩
  | 57 => ⟨S16384x128, .f32⟩
  | 58 => ⟨S16384x128, .f32⟩
  | 59 => ⟨S16384x128, .f32⟩
  | 60 => ⟨S_, .i32⟩
  | 61 => ⟨S16384x50, .i32⟩
  | 62 => ⟨S16384x50, .i1⟩
  | 63 => ⟨S_, .i32⟩
  | 64 => ⟨S16384x50, .i32⟩
  | 65 => ⟨S16384x50, .i32⟩
  | 66 => ⟨S16384x50, .i32⟩
  | 67 => ⟨S16384x50x1, .i32⟩
  | 68 => ⟨S1, .i32⟩
  | 69 => ⟨S_, .i32⟩
  | 70 => ⟨S16384x50x1, .i32⟩
  | 71 => ⟨S16384x50x1, .i1⟩
  | 72 => ⟨S1x1x1, .i32⟩
  | 73 => ⟨S16384x50x1, .i32⟩
  | 74 => ⟨S16384x50x1, .i1⟩
  | 75 => ⟨S16384x50x1, .i1⟩
  | 76 => ⟨S_, .i1⟩
  | 77 => ⟨S16384x50, .i1⟩
  | 78 => ⟨S16384x50x128, .f32⟩
  | 79 => ⟨S16384x50x128, .i1⟩
  | 80 => ⟨S_, .f32⟩
  | 81 => ⟨S16384x50x128, .f32⟩
  | 82 => ⟨S16384x50x128, .f32⟩
  | 83 => ⟨S16384x50x128, .f32⟩
  | 84 => ⟨S_, .i32⟩
  | 85 => ⟨S16384, .i32⟩
  | 86 => ⟨S16384, .i1⟩
  | 87 => ⟨S_, .i32⟩
  | 88 => ⟨S16384, .i32⟩
  | 89 => ⟨S16384, .i32⟩
  | 90 => ⟨S16384, .i32⟩
  | 91 => ⟨S16384x1, .i32⟩
  | 92 => ⟨S1, .i32⟩
  | 93 => ⟨S_, .i32⟩
  | 94 => ⟨S16384x1, .i32⟩
  | 95 => ⟨S16384x1, .i1⟩
  | 96 => ⟨S1x1, .i32⟩
  | 97 => ⟨S16384x1, .i32⟩
  | 98 => ⟨S16384x1, .i1⟩
  | 99 => ⟨S16384x1, .i1⟩
  | 100 => ⟨S_, .i1⟩
  | 101 => ⟨S16384, .i1⟩
  | 102 => ⟨S16384x128, .f32⟩
  | 103 => ⟨S16384x128, .i1⟩
  | 104 => ⟨S_, .f32⟩
  | 105 => ⟨S16384x128, .f32⟩
  | 106 => ⟨S16384x128, .f32⟩
  | 107 => ⟨S16384x128, .f32⟩
  | 108 => ⟨S16384x128, .f32⟩
  | 109 => ⟨S16384x128, .f32⟩
  | 110 => ⟨S_, .f32⟩
  | 111 => ⟨S16384x128, .f32⟩
  | 112 => ⟨S16384x128, .i1⟩
  | 113 => ⟨S_, .f32⟩
  | 114 => ⟨S16384, .f32⟩
  | 115 => ⟨S_, .f32⟩
  | 116 => ⟨S16384, .f32⟩
  | 117 => ⟨S16384, .f32⟩
  | 118 => ⟨S16384x128, .f32⟩
  | 119 => ⟨S16384x1x128, .f32⟩
  | 120 => ⟨S16384x50x128, .f32⟩
  | 121 => ⟨S16384x50x128, .f32⟩
  | 122 => ⟨S16384x50x128, .f32⟩
  | 123 => ⟨S_, .f32⟩
  | 124 => ⟨S16384x50x128, .f32⟩
  | 125 => ⟨S16384x50x128, .i1⟩
  | 126 => ⟨S_, .f32⟩
  | 127 => ⟨S16384x50, .f32⟩
  | _ => ⟨S16384, .i32⟩

abbrev hbmTy0_1 (i : Nat) : BufTy := match i % 128 with
  | 0 => ⟨S_, .f32⟩
  | 1 => ⟨S16384x50, .f32⟩
  | 2 => ⟨S16384x50, .f32⟩
  | 3 => ⟨S_, .f32⟩
  | 4 => ⟨S16384x50, .f32⟩
  | 5 => ⟨S16384x50, .f32⟩
  | 6 => ⟨S_, .f32⟩
  | 7 => ⟨S16384, .f32⟩
  | 8 => ⟨S16384x1, .f32⟩
  | 9 => ⟨S16384x50, .f32⟩
  | 10 => ⟨S16384x50, .i1⟩
  | 11 => ⟨S16384x50, .f32⟩
  | 12 => ⟨S_, .f32⟩
  | 13 => ⟨S16384, .f32⟩
  | 14 => ⟨S_, .f32⟩
  | 15 => ⟨S16384, .f32⟩
  | 16 => ⟨S16384, .f32⟩
  | 17 => ⟨S_, .f32⟩
  | 18 => ⟨S16384, .f32⟩
  | 19 => ⟨S16384, .i1⟩
  | 20 => ⟨S_, .f32⟩
  | 21 => ⟨S16384, .f32⟩
  | 22 => ⟨S16384, .i1⟩
  | 23 => ⟨S_, .f32⟩
  | 24 => ⟨S16384, .f32⟩
  | 25 => ⟨S_, .f32⟩
  | 26 => ⟨S16384, .f32⟩
  | 27 => ⟨S_, .f32⟩
  | 28 => ⟨S16384, .f32⟩
  | 29 => ⟨S16384, .f32⟩
  | 30 => ⟨S16384, .f32⟩
  | 31 => ⟨S16384x1, .f32⟩
  | 32 => ⟨S16384x50, .f32⟩
  | 33 => ⟨S16384x50, .f32⟩
  | 34 => ⟨S16384x50, .f32⟩
  | 35 => ⟨S_, .f32⟩
  | 36 => ⟨S16384, .f32⟩
  | 37 => ⟨S16384x1, .f32⟩
  | 38 => ⟨S16384x50, .f32⟩
  | 39 => ⟨S16384x50, .f32⟩
  | 40 => ⟨S16384x1, .f32⟩
  | 41 => ⟨S_, .f32⟩
  | 42 => ⟨S16384x1, .f32⟩
  | 43 => ⟨S16384x1, .f32⟩
  | 44 => ⟨S16384x50, .f32⟩
  | 45 => ⟨S16384x50, .f32⟩
  | 46 => ⟨S_, .f32⟩
  | 47 => ⟨S16384x50, .f32⟩
  | 48 => ⟨S16384x50, .f32⟩
  | 49 => ⟨S16384x50, .f32⟩
  | 50 => ⟨S16384x50, .f32⟩
  | 51 => ⟨S16384x50, .i1⟩
  | 52 => ⟨S16384x50, .f32⟩
  | 53 => ⟨S16384x50, .f32⟩
  | 54 => ⟨S16384x50, .f32⟩
  | 55 => ⟨S16384x50, .f32⟩
  | 56 => ⟨S16384x50, .f32⟩
  | 57 => ⟨S16384x50, .f32⟩
  | 58 => ⟨S16384x50, .f32⟩
  | 59 => ⟨S16384x50, .f32⟩
  | 60 => ⟨S_, .f32⟩
  | 61 => ⟨S16384x50, .f32⟩
  | 62 => ⟨S16384x50, .i1⟩
  | 63 => ⟨S_, .f32⟩
  | 64 => ⟨S16384x50, .f32⟩
  | 65 => ⟨S16384x50, .f32⟩
  | 66 => ⟨S_, .f32⟩
  | 67 => ⟨S16384x50, .f32⟩
  | 68 => ⟨S16384x50, .i1⟩
  | 69 => ⟨S_, .f32⟩
  | 70 => ⟨S16384x50, .f32⟩
  | 71 => ⟨S16384x50, .f32⟩
  | 72 => ⟨S16384x50, .f32⟩
  | 73 => ⟨S16384x50, .f32⟩
  | 74 => ⟨S_, .f32⟩
  | 75 => ⟨S_, .f32⟩
  | 76 => ⟨S_, .i1⟩
  | 77 => ⟨S_, .f32⟩
  | 78 => ⟨S_, .f32⟩
  | 79 => ⟨S_, .f32⟩
  | 80 => ⟨S_, .f32⟩
  | 81 => ⟨S16384x50, .f32⟩
  | 82 => ⟨S16384x50, .i1⟩
  | 83 => ⟨S_, .f32⟩
  | 84 => ⟨S16384x50, .f32⟩
  | 85 => ⟨S16384x50, .f32⟩
  | 86 => ⟨S16384x50, .f32⟩
  | 87 => ⟨S16384x50, .f32⟩
  | 88 => ⟨S16384x50, .f32⟩
  | 89 => ⟨S_, .f32⟩
  | 90 => ⟨S16384x50, .f32⟩
  | 91 => ⟨S16384x50, .f32⟩
  | 92 => ⟨S16384x50, .f32⟩
  | 93 => ⟨S16384x50, .f32⟩
  | 94 => ⟨S_, .f32⟩
  | 95 => ⟨S16384, .f32⟩
  | 96 => ⟨S16384, .f32⟩
  | 97 => ⟨S_, .f32⟩
  | 98 => ⟨S16384, .f32⟩
  | 99 => ⟨S16384, .f32⟩
  | 100 => ⟨S16384, .f32⟩
  | 101 => ⟨S16384, .f32⟩
  | 102 => ⟨S16384, .i1⟩
  | 103 => ⟨S16384, .f32⟩
  | 104 => ⟨S16384, .f32⟩
  | 105 => ⟨S16384, .f32⟩
  | 106 => ⟨S16384, .f32⟩
  | 107 => ⟨S16384, .f32⟩
  | 108 => ⟨S16384, .f32⟩
  | 109 => ⟨S16384, .f32⟩
  | 110 => ⟨S16384, .f32⟩
  | 111 => ⟨S_, .f32⟩
  | 112 => ⟨S16384, .f32⟩
  | 113 => ⟨S16384, .i1⟩
  | 114 => ⟨S_, .f32⟩
  | 115 => ⟨S16384, .f32⟩
  | 116 => ⟨S16384, .f32⟩
  | 117 => ⟨S_, .f32⟩
  | 118 => ⟨S16384, .f32⟩
  | 119 => ⟨S16384, .i1⟩
  | 120 => ⟨S_, .f32⟩
  | 121 => ⟨S16384, .f32⟩
  | 122 => ⟨S16384, .f32⟩
  | 123 => ⟨S16384, .f32⟩
  | 124 => ⟨S16384, .f32⟩
  | 125 => ⟨S_, .f32⟩
  | 126 => ⟨S_, .f32⟩
  | 127 => ⟨S_, .i1⟩
  | _ => ⟨S16384, .i32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S16384, .f32⟩
  | 5 => ⟨S16384, .i1⟩
  | 6 => ⟨S_, .f32⟩
  | 7 => ⟨S16384, .f32⟩
  | 8 => ⟨S16384, .f32⟩
  | 9 => ⟨S16384, .f32⟩
  | 10 => ⟨S16384, .f32⟩
  | 11 => ⟨S16384, .f32⟩
  | 12 => ⟨S_, .f32⟩
  | 13 => ⟨S16384, .f32⟩
  | 14 => ⟨S16384, .f32⟩
  | 15 => ⟨S16384, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S16384, .f32⟩
  | 36 => ⟨S_, .f32⟩
  | 37 => ⟨S_, .f32⟩
  | 38 => ⟨S_, .f32⟩
  | 39 => ⟨S16384, .f32⟩
  | 40 => ⟨S16384, .f32⟩
  | 41 => ⟨S16384, .f32⟩
  | 42 => ⟨S16384, .f32⟩
  | 43 => ⟨S16384x50, .f32⟩
  | 44 => ⟨S16384x50, .f32⟩
  | 45 => ⟨S16384x50, .f32⟩
  | 46 => ⟨S16384x50, .f32⟩
  | 47 => ⟨S16384x50, .f32⟩
  | 48 => ⟨S16384x50, .f32⟩
  | 49 => ⟨S16384x50, .f32⟩
  | 50 => ⟨S16384x50x128, .f32⟩
  | 51 => ⟨S_, .f32⟩
  | 52 => ⟨S16384x50x128, .f32⟩
  | 53 => ⟨S16384x50x128, .f32⟩
  | 54 => ⟨S16384x50x128, .f32⟩
  | 55 => ⟨S16384x50x128, .f32⟩
  | 56 => ⟨S16384x50x128, .f32⟩
  | 57 => ⟨S_, .f32⟩
  | 58 => ⟨S16384x128, .f32⟩
  | 59 => ⟨S16384x1x128, .f32⟩
  | 60 => ⟨S16384x50x128, .f32⟩
  | 61 => ⟨S_, .f32⟩
  | 62 => ⟨S16384x128, .f32⟩
  | 63 => ⟨S16384, .f32⟩
  | 64 => ⟨S16384x128, .f32⟩
  | 65 => ⟨S_, .f32⟩
  | 66 => ⟨S16384x128, .f32⟩
  | 67 => ⟨S16384x128, .f32⟩
  | 68 => ⟨S16384x128, .f32⟩
  | 69 => ⟨S16384x128, .f32⟩
  | 70 => ⟨S16384x128, .f32⟩
  | 71 => ⟨S16384x128, .f32⟩
  | 72 => ⟨S16384x128, .f32⟩
  | 73 => ⟨S_, .f32⟩
  | 74 => ⟨S100000x128, .f32⟩
  | 75 => ⟨S_, .i32⟩
  | 76 => ⟨S16384, .i32⟩
  | 77 => ⟨S16384, .i1⟩
  | 78 => ⟨S_, .i32⟩
  | 79 => ⟨S16384, .i32⟩
  | 80 => ⟨S16384, .i32⟩
  | 81 => ⟨S16384, .i32⟩
  | 82 => ⟨S16384x1, .i32⟩
  | 83 => ⟨S100000x128, .f32⟩
  | 84 => ⟨S_, .i32⟩
  | 85 => ⟨S16384, .i32⟩
  | 86 => ⟨S16384, .i1⟩
  | 87 => ⟨S_, .i32⟩
  | 88 => ⟨S16384, .i32⟩
  | 89 => ⟨S16384, .i32⟩
  | 90 => ⟨S16384, .i32⟩
  | 91 => ⟨S16384x1, .i32⟩
  | 92 => ⟨S100000x128, .f32⟩
  | 93 => ⟨S819200, .i32⟩
  | 94 => ⟨S819200x128, .f32⟩
  | 95 => ⟨S_, .i32⟩
  | 96 => ⟨S819200, .i32⟩
  | 97 => ⟨S819200, .i1⟩
  | 98 => ⟨S_, .i32⟩
  | 99 => ⟨S819200, .i32⟩
  | 100 => ⟨S819200, .i32⟩
  | 101 => ⟨S819200, .i32⟩
  | 102 => ⟨S819200x1, .i32⟩
  | 103 => ⟨S100000x128, .f32⟩
  | 104 => ⟨S100000x1, .f32⟩
  | 105 => ⟨S100000, .f32⟩
  | 106 => ⟨S100000, .f32⟩
  | 107 => ⟨S100000, .i32⟩
  | _ => ⟨S16384, .i32⟩

abbrev hbmTy (i : Nat) : BufTy := match i / 128 with
  | 0 => hbmTy0_0 i
  | 1 => hbmTy0_1 i
  | 2 => hbmTy0_2 i
  | _ => ⟨S16384, .i32⟩

abbrev bufTy : (tb : Table) → Fin (tcTables nBuf tb) → BufTy
  | .hbm, ⟨i, _⟩ => hbmTy i
  | .local _ .vmem, ⟨0, _⟩ => ⟨S400x128, .f32⟩
  | .local _ .vmem, ⟨1, _⟩ => ⟨S400x128, .f32⟩
  | .local _ .vmem, ⟨2, _⟩ => ⟨S400x1, .f32⟩
  | .local _ .vmem, ⟨3, _⟩ => ⟨S400x1, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v3 : Ref sig .tc := ⟨.hbm, 34, rfl⟩
abbrev main_v4 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v5 : Ref sig .tc := ⟨.hbm, 58, rfl⟩
abbrev main_v6 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_c_1 : Ref sig .tc := ⟨.hbm, 68, rfl⟩
abbrev main_call2_c_2 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_3 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_call2_cst : Ref sig .tc := ⟨.hbm, 80, rfl⟩
abbrev main_call2_v15 : Ref sig .tc := ⟨.hbm, 81, rfl⟩
abbrev main_v7 : Ref sig .tc := ⟨.hbm, 82, rfl⟩
abbrev main_v8 : Ref sig .tc := ⟨.hbm, 83, rfl⟩
abbrev main_call3_c : Ref sig .tc := ⟨.hbm, 84, rfl⟩
abbrev main_call3_v0 : Ref sig .tc := ⟨.hbm, 85, rfl⟩
abbrev main_call3_v1 : Ref sig .tc := ⟨.hbm, 86, rfl⟩
abbrev main_call3_c_0 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_call3_v5 : Ref sig .tc := ⟨.hbm, 91, rfl⟩
abbrev main_call3_c_1 : Ref sig .tc := ⟨.hbm, 92, rfl⟩
abbrev main_call3_c_2 : Ref sig .tc := ⟨.hbm, 93, rfl⟩
abbrev main_call3_v6 : Ref sig .tc := ⟨.hbm, 94, rfl⟩
abbrev main_call3_v7 : Ref sig .tc := ⟨.hbm, 95, rfl⟩
abbrev main_call3_v8 : Ref sig .tc := ⟨.hbm, 96, rfl⟩
abbrev main_call3_v9 : Ref sig .tc := ⟨.hbm, 97, rfl⟩
abbrev main_call3_v10 : Ref sig .tc := ⟨.hbm, 98, rfl⟩
abbrev main_call3_v11 : Ref sig .tc := ⟨.hbm, 99, rfl⟩
abbrev main_call3_c_3 : Ref sig .tc := ⟨.hbm, 100, rfl⟩
abbrev main_call3_v12 : Ref sig .tc := ⟨.hbm, 101, rfl⟩
abbrev main_call3_v13 : Ref sig .tc := ⟨.hbm, 102, rfl⟩
abbrev main_call3_v14 : Ref sig .tc := ⟨.hbm, 103, rfl⟩
abbrev main_call3_cst : Ref sig .tc := ⟨.hbm, 104, rfl⟩
abbrev main_call3_v15 : Ref sig .tc := ⟨.hbm, 105, rfl⟩
abbrev main_v9 : Ref sig .tc := ⟨.hbm, 106, rfl⟩
abbrev main_v10 : Ref sig .tc := ⟨.hbm, 107, rfl⟩
abbrev main_v11 : Ref sig .tc := ⟨.hbm, 108, rfl⟩
abbrev main_v12 : Ref sig .tc := ⟨.hbm, 109, rfl⟩
abbrev main_cst_2 : Ref sig .tc := ⟨.hbm, 110, rfl⟩
abbrev main_v13 : Ref sig .tc := ⟨.hbm, 111, rfl⟩
abbrev main_v14 : Ref sig .tc := ⟨.hbm, 112, rfl⟩
abbrev main_cst_3 : Ref sig .tc := ⟨.hbm, 113, rfl⟩
abbrev main_v15 : Ref sig .tc := ⟨.hbm, 114, rfl⟩
abbrev main_cst_4 : Ref sig .tc := ⟨.hbm, 115, rfl⟩
abbrev main_v16 : Ref sig .tc := ⟨.hbm, 116, rfl⟩
abbrev main_v17 : Ref sig .tc := ⟨.hbm, 117, rfl⟩
abbrev main_v18 : Ref sig .tc := ⟨.hbm, 118, rfl⟩
abbrev main_v19 : Ref sig .tc := ⟨.hbm, 119, rfl⟩
abbrev main_v20 : Ref sig .tc := ⟨.hbm, 120, rfl⟩
abbrev main_v21 : Ref sig .tc := ⟨.hbm, 121, rfl⟩
abbrev main_v22 : Ref sig .tc := ⟨.hbm, 122, rfl⟩
abbrev main_cst_5 : Ref sig .tc := ⟨.hbm, 123, rfl⟩
abbrev main_v23 : Ref sig .tc := ⟨.hbm, 124, rfl⟩
abbrev main_v24 : Ref sig .tc := ⟨.hbm, 125, rfl⟩
abbrev main_cst_6 : Ref sig .tc := ⟨.hbm, 126, rfl⟩
abbrev main_v25 : Ref sig .tc := ⟨.hbm, 127, rfl⟩
abbrev main_cst_7 : Ref sig .tc := ⟨.hbm, 128, rfl⟩
abbrev main_v26 : Ref sig .tc := ⟨.hbm, 129, rfl⟩
abbrev main_v27 : Ref sig .tc := ⟨.hbm, 130, rfl⟩
abbrev main_cst_8 : Ref sig .tc := ⟨.hbm, 131, rfl⟩
abbrev main_v28 : Ref sig .tc := ⟨.hbm, 132, rfl⟩
abbrev main_v29 : Ref sig .tc := ⟨.hbm, 133, rfl⟩
abbrev main_cst_9 : Ref sig .tc := ⟨.hbm, 134, rfl⟩
abbrev main_v30 : Ref sig .tc := ⟨.hbm, 135, rfl⟩
abbrev main_v31 : Ref sig .tc := ⟨.hbm, 136, rfl⟩
abbrev main_v32 : Ref sig .tc := ⟨.hbm, 137, rfl⟩
abbrev main_v33 : Ref sig .tc := ⟨.hbm, 138, rfl⟩
abbrev main_v34 : Ref sig .tc := ⟨.hbm, 139, rfl⟩
abbrev main_cst_10 : Ref sig .tc := ⟨.hbm, 140, rfl⟩
abbrev main_v35 : Ref sig .tc := ⟨.hbm, 141, rfl⟩
abbrev main_cst_11 : Ref sig .tc := ⟨.hbm, 142, rfl⟩
abbrev main_v36 : Ref sig .tc := ⟨.hbm, 143, rfl⟩
abbrev main_v37 : Ref sig .tc := ⟨.hbm, 144, rfl⟩
abbrev main_cst_12 : Ref sig .tc := ⟨.hbm, 145, rfl⟩
abbrev main_v38 : Ref sig .tc := ⟨.hbm, 146, rfl⟩
abbrev main_v39 : Ref sig .tc := ⟨.hbm, 147, rfl⟩
abbrev main_cst_13 : Ref sig .tc := ⟨.hbm, 148, rfl⟩
abbrev main_v40 : Ref sig .tc := ⟨.hbm, 149, rfl⟩
abbrev main_v41 : Ref sig .tc := ⟨.hbm, 150, rfl⟩
abbrev main_cst_14 : Ref sig .tc := ⟨.hbm, 151, rfl⟩
abbrev main_v42 : Ref sig .tc := ⟨.hbm, 152, rfl⟩
abbrev main_cst_15 : Ref sig .tc := ⟨.hbm, 153, rfl⟩
abbrev main_v43 : Ref sig .tc := ⟨.hbm, 154, rfl⟩
abbrev main_cst_16 : Ref sig .tc := ⟨.hbm, 155, rfl⟩
abbrev main_v44 : Ref sig .tc := ⟨.hbm, 156, rfl⟩
abbrev main_v45 : Ref sig .tc := ⟨.hbm, 157, rfl⟩
abbrev main_v46 : Ref sig .tc := ⟨.hbm, 158, rfl⟩
abbrev main_v47 : Ref sig .tc := ⟨.hbm, 159, rfl⟩
abbrev main_v48 : Ref sig .tc := ⟨.hbm, 160, rfl⟩
abbrev main_v49 : Ref sig .tc := ⟨.hbm, 161, rfl⟩
abbrev main_v50 : Ref sig .tc := ⟨.hbm, 162, rfl⟩
abbrev main_cst_17 : Ref sig .tc := ⟨.hbm, 163, rfl⟩
abbrev main_v51 : Ref sig .tc := ⟨.hbm, 164, rfl⟩
abbrev main_v52 : Ref sig .tc := ⟨.hbm, 165, rfl⟩
abbrev main_v53 : Ref sig .tc := ⟨.hbm, 166, rfl⟩
abbrev main_v54 : Ref sig .tc := ⟨.hbm, 167, rfl⟩
abbrev main_v55 : Ref sig .tc := ⟨.hbm, 168, rfl⟩
abbrev main_cst_18 : Ref sig .tc := ⟨.hbm, 169, rfl⟩
abbrev main_v56 : Ref sig .tc := ⟨.hbm, 170, rfl⟩
abbrev main_v57 : Ref sig .tc := ⟨.hbm, 171, rfl⟩
abbrev main_v58 : Ref sig .tc := ⟨.hbm, 172, rfl⟩
abbrev main_call4_v0 : Ref sig .tc := ⟨.hbm, 173, rfl⟩
abbrev main_call4_call0_cst : Ref sig .tc := ⟨.hbm, 174, rfl⟩
abbrev main_call4_call0_v0 : Ref sig .tc := ⟨.hbm, 175, rfl⟩
abbrev main_call4_call0_v1 : Ref sig .tc := ⟨.hbm, 176, rfl⟩
abbrev main_call4_call0_v2 : Ref sig .tc := ⟨.hbm, 177, rfl⟩
abbrev main_call4_call0_v3 : Ref sig .tc := ⟨.hbm, 178, rfl⟩
abbrev main_call4_call0_v4 : Ref sig .tc := ⟨.hbm, 179, rfl⟩
abbrev main_call4_call0_v5 : Ref sig .tc := ⟨.hbm, 180, rfl⟩
abbrev main_call4_call0_v6 : Ref sig .tc := ⟨.hbm, 181, rfl⟩
abbrev main_call4_call0_v7 : Ref sig .tc := ⟨.hbm, 182, rfl⟩
abbrev main_call4_call0_v8 : Ref sig .tc := ⟨.hbm, 183, rfl⟩
abbrev main_call4_call0_v9 : Ref sig .tc := ⟨.hbm, 184, rfl⟩
abbrev main_call4_call0_v10 : Ref sig .tc := ⟨.hbm, 185, rfl⟩
abbrev main_call4_call0_v11 : Ref sig .tc := ⟨.hbm, 186, rfl⟩
abbrev main_call4_v1_0 : Ref sig .tc := ⟨.hbm, 187, rfl⟩
abbrev main_call4_call0_cst_0 : Ref sig .tc := ⟨.hbm, 188, rfl⟩
abbrev main_call4_call0_v13 : Ref sig .tc := ⟨.hbm, 189, rfl⟩
abbrev main_call4_call0_v14 : Ref sig .tc := ⟨.hbm, 190, rfl⟩
abbrev main_call4_call0_cst_1 : Ref sig .tc := ⟨.hbm, 191, rfl⟩
abbrev main_call4_call0_v15 : Ref sig .tc := ⟨.hbm, 192, rfl⟩
abbrev main_call4_call0_v16 : Ref sig .tc := ⟨.hbm, 193, rfl⟩
abbrev main_call4_call0_cst_2 : Ref sig .tc := ⟨.hbm, 194, rfl⟩
abbrev main_call4_call0_v17 : Ref sig .tc := ⟨.hbm, 195, rfl⟩
abbrev main_call4_call0_v18 : Ref sig .tc := ⟨.hbm, 196, rfl⟩
abbrev main_call4_call0_cst_3 : Ref sig .tc := ⟨.hbm, 197, rfl⟩
abbrev main_call4_call0_v19 : Ref sig .tc := ⟨.hbm, 198, rfl⟩
abbrev main_call4_call0_v20 : Ref sig .tc := ⟨.hbm, 199, rfl⟩
abbrev main_call4_call0_v21 : Ref sig .tc := ⟨.hbm, 200, rfl⟩
abbrev main_v59_1 : Ref sig .tc := ⟨.hbm, 201, rfl⟩
abbrev main_call4_call0_cst_4 : Ref sig .tc := ⟨.hbm, 202, rfl⟩
abbrev main_call4_call0_cst_5 : Ref sig .tc := ⟨.hbm, 203, rfl⟩
abbrev main_call4_call0_v23 : Ref sig .tc := ⟨.hbm, 204, rfl⟩
abbrev main_call4_call0_cst_6 : Ref sig .tc := ⟨.hbm, 205, rfl⟩
abbrev main_call4_call0_cst_7 : Ref sig .tc := ⟨.hbm, 206, rfl⟩
abbrev main_call4_call0_v24 : Ref sig .tc := ⟨.hbm, 207, rfl⟩
abbrev main_call4_call0_cst_8 : Ref sig .tc := ⟨.hbm, 208, rfl⟩
abbrev main_call4_call0_v25 : Ref sig .tc := ⟨.hbm, 209, rfl⟩
abbrev main_call4_call0_v26 : Ref sig .tc := ⟨.hbm, 210, rfl⟩
abbrev main_call4_call0_cst_9 : Ref sig .tc := ⟨.hbm, 211, rfl⟩
abbrev main_call4_call0_v27 : Ref sig .tc := ⟨.hbm, 212, rfl⟩
abbrev main_call4_call0_v28 : Ref sig .tc := ⟨.hbm, 213, rfl⟩
abbrev main_call4_call0_v29 : Ref sig .tc := ⟨.hbm, 214, rfl⟩
abbrev main_call4_call0_v30 : Ref sig .tc := ⟨.hbm, 215, rfl⟩
abbrev main_call4_call0_v31 : Ref sig .tc := ⟨.hbm, 216, rfl⟩
abbrev main_call4_call0_cst_10 : Ref sig .tc := ⟨.hbm, 217, rfl⟩
abbrev main_call4_call0_v32 : Ref sig .tc := ⟨.hbm, 218, rfl⟩
abbrev main_v59_2 : Ref sig .tc := ⟨.hbm, 219, rfl⟩
abbrev main_v59_0 : Ref sig .tc := ⟨.hbm, 220, rfl⟩
abbrev main_v60 : Ref sig .tc := ⟨.hbm, 221, rfl⟩
abbrev main_cst_19 : Ref sig .tc := ⟨.hbm, 222, rfl⟩
abbrev main_v61 : Ref sig .tc := ⟨.hbm, 223, rfl⟩
abbrev main_call5_v0 : Ref sig .tc := ⟨.hbm, 224, rfl⟩
abbrev main_call5_call0_cst : Ref sig .tc := ⟨.hbm, 225, rfl⟩
abbrev main_call5_call0_v0 : Ref sig .tc := ⟨.hbm, 226, rfl⟩
abbrev main_call5_call0_v1 : Ref sig .tc := ⟨.hbm, 227, rfl⟩
abbrev main_call5_call0_v2 : Ref sig .tc := ⟨.hbm, 228, rfl⟩
abbrev main_call5_call0_v3 : Ref sig .tc := ⟨.hbm, 229, rfl⟩
abbrev main_call5_call0_v4 : Ref sig .tc := ⟨.hbm, 230, rfl⟩
abbrev main_call5_call0_v5 : Ref sig .tc := ⟨.hbm, 231, rfl⟩
abbrev main_call5_call0_v6 : Ref sig .tc := ⟨.hbm, 232, rfl⟩
abbrev main_call5_call0_v7 : Ref sig .tc := ⟨.hbm, 233, rfl⟩
abbrev main_call5_call0_v8 : Ref sig .tc := ⟨.hbm, 234, rfl⟩
abbrev main_call5_call0_v9 : Ref sig .tc := ⟨.hbm, 235, rfl⟩
abbrev main_call5_call0_v10 : Ref sig .tc := ⟨.hbm, 236, rfl⟩
abbrev main_call5_call0_v11 : Ref sig .tc := ⟨.hbm, 237, rfl⟩
abbrev main_call5_v1_0 : Ref sig .tc := ⟨.hbm, 238, rfl⟩
abbrev main_call5_call0_cst_0 : Ref sig .tc := ⟨.hbm, 239, rfl⟩
abbrev main_call5_call0_v13 : Ref sig .tc := ⟨.hbm, 240, rfl⟩
abbrev main_call5_call0_v14 : Ref sig .tc := ⟨.hbm, 241, rfl⟩
abbrev main_call5_call0_cst_1 : Ref sig .tc := ⟨.hbm, 242, rfl⟩
abbrev main_call5_call0_v15 : Ref sig .tc := ⟨.hbm, 243, rfl⟩
abbrev main_call5_call0_v16 : Ref sig .tc := ⟨.hbm, 244, rfl⟩
abbrev main_call5_call0_cst_2 : Ref sig .tc := ⟨.hbm, 245, rfl⟩
abbrev main_call5_call0_v17 : Ref sig .tc := ⟨.hbm, 246, rfl⟩
abbrev main_call5_call0_v18 : Ref sig .tc := ⟨.hbm, 247, rfl⟩
abbrev main_call5_call0_cst_3 : Ref sig .tc := ⟨.hbm, 248, rfl⟩
abbrev main_call5_call0_v19 : Ref sig .tc := ⟨.hbm, 249, rfl⟩
abbrev main_call5_call0_v20 : Ref sig .tc := ⟨.hbm, 250, rfl⟩
abbrev main_call5_call0_v21 : Ref sig .tc := ⟨.hbm, 251, rfl⟩
abbrev main_v62_1 : Ref sig .tc := ⟨.hbm, 252, rfl⟩
abbrev main_call5_call0_cst_4 : Ref sig .tc := ⟨.hbm, 253, rfl⟩
abbrev main_call5_call0_cst_5 : Ref sig .tc := ⟨.hbm, 254, rfl⟩
abbrev main_call5_call0_v23 : Ref sig .tc := ⟨.hbm, 255, rfl⟩
abbrev main_call5_call0_cst_6 : Ref sig .tc := ⟨.hbm, 256, rfl⟩
abbrev main_call5_call0_cst_7 : Ref sig .tc := ⟨.hbm, 257, rfl⟩
abbrev main_call5_call0_v24 : Ref sig .tc := ⟨.hbm, 258, rfl⟩
abbrev main_call5_call0_cst_8 : Ref sig .tc := ⟨.hbm, 259, rfl⟩
abbrev main_call5_call0_v25 : Ref sig .tc := ⟨.hbm, 260, rfl⟩
abbrev main_call5_call0_v26 : Ref sig .tc := ⟨.hbm, 261, rfl⟩
abbrev main_call5_call0_cst_9 : Ref sig .tc := ⟨.hbm, 262, rfl⟩
abbrev main_call5_call0_v27 : Ref sig .tc := ⟨.hbm, 263, rfl⟩
abbrev main_call5_call0_v28 : Ref sig .tc := ⟨.hbm, 264, rfl⟩
abbrev main_call5_call0_v29 : Ref sig .tc := ⟨.hbm, 265, rfl⟩
abbrev main_call5_call0_v30 : Ref sig .tc := ⟨.hbm, 266, rfl⟩
abbrev main_call5_call0_v31 : Ref sig .tc := ⟨.hbm, 267, rfl⟩
abbrev main_call5_call0_cst_10 : Ref sig .tc := ⟨.hbm, 268, rfl⟩
abbrev main_call5_call0_v32 : Ref sig .tc := ⟨.hbm, 269, rfl⟩
abbrev main_v62_2 : Ref sig .tc := ⟨.hbm, 270, rfl⟩
abbrev main_v62_0 : Ref sig .tc := ⟨.hbm, 271, rfl⟩
abbrev main_cst_20 : Ref sig .tc := ⟨.hbm, 272, rfl⟩
abbrev main_v63 : Ref sig .tc := ⟨.hbm, 273, rfl⟩
abbrev main_cst_21 : Ref sig .tc := ⟨.hbm, 274, rfl⟩
abbrev main_v64 : Ref sig .tc := ⟨.hbm, 275, rfl⟩
abbrev main_v65 : Ref sig .tc := ⟨.hbm, 276, rfl⟩
abbrev main_cst_22 : Ref sig .tc := ⟨.hbm, 277, rfl⟩
abbrev main_v66 : Ref sig .tc := ⟨.hbm, 278, rfl⟩
abbrev main_cst_23 : Ref sig .tc := ⟨.hbm, 279, rfl⟩
abbrev main_v67 : Ref sig .tc := ⟨.hbm, 280, rfl⟩
abbrev main_v68 : Ref sig .tc := ⟨.hbm, 281, rfl⟩
abbrev main_v69 : Ref sig .tc := ⟨.hbm, 282, rfl⟩
abbrev main_cst_24 : Ref sig .tc := ⟨.hbm, 283, rfl⟩
abbrev main_v70 : Ref sig .tc := ⟨.hbm, 284, rfl⟩
abbrev main_cst_25 : Ref sig .tc := ⟨.hbm, 285, rfl⟩
abbrev main_cst_26 : Ref sig .tc := ⟨.hbm, 286, rfl⟩
abbrev main_v71 : Ref sig .tc := ⟨.hbm, 287, rfl⟩
abbrev main_v72 : Ref sig .tc := ⟨.hbm, 288, rfl⟩
abbrev main_cst_27 : Ref sig .tc := ⟨.hbm, 289, rfl⟩
abbrev main_v73 : Ref sig .tc := ⟨.hbm, 290, rfl⟩
abbrev main_v74 : Ref sig .tc := ⟨.hbm, 291, rfl⟩
abbrev main_v75 : Ref sig .tc := ⟨.hbm, 292, rfl⟩
abbrev main_cst_28 : Ref sig .tc := ⟨.hbm, 293, rfl⟩
abbrev main_v76 : Ref sig .tc := ⟨.hbm, 294, rfl⟩
abbrev main_v77 : Ref sig .tc := ⟨.hbm, 295, rfl⟩
abbrev main_call6_v0 : Ref sig .tc := ⟨.hbm, 296, rfl⟩
abbrev main_call6_v1 : Ref sig .tc := ⟨.hbm, 297, rfl⟩
abbrev main_v78 : Ref sig .tc := ⟨.hbm, 298, rfl⟩
abbrev main_v79 : Ref sig .tc := ⟨.hbm, 299, rfl⟩
abbrev main_v80 : Ref sig .tc := ⟨.hbm, 300, rfl⟩
abbrev main_call7_v0 : Ref sig .tc := ⟨.hbm, 301, rfl⟩
abbrev main_call7_v1 : Ref sig .tc := ⟨.hbm, 302, rfl⟩
abbrev main_v81 : Ref sig .tc := ⟨.hbm, 303, rfl⟩
abbrev main_v82 : Ref sig .tc := ⟨.hbm, 304, rfl⟩
abbrev main_v83 : Ref sig .tc := ⟨.hbm, 305, rfl⟩
abbrev main_v84 : Ref sig .tc := ⟨.hbm, 306, rfl⟩
abbrev main_cst_29 : Ref sig .tc := ⟨.hbm, 307, rfl⟩
abbrev main_v85 : Ref sig .tc := ⟨.hbm, 308, rfl⟩
abbrev main_v86 : Ref sig .tc := ⟨.hbm, 309, rfl⟩
abbrev main_v87 : Ref sig .tc := ⟨.hbm, 310, rfl⟩
abbrev main_v88 : Ref sig .tc := ⟨.hbm, 311, rfl⟩
abbrev main_v89 : Ref sig .tc := ⟨.hbm, 312, rfl⟩
abbrev main_cst_30 : Ref sig .tc := ⟨.hbm, 313, rfl⟩
abbrev main_v90 : Ref sig .tc := ⟨.hbm, 314, rfl⟩
abbrev main_v91 : Ref sig .tc := ⟨.hbm, 315, rfl⟩
abbrev main_v92 : Ref sig .tc := ⟨.hbm, 316, rfl⟩
abbrev main_cst_31 : Ref sig .tc := ⟨.hbm, 317, rfl⟩
abbrev main_v93 : Ref sig .tc := ⟨.hbm, 318, rfl⟩
abbrev main_v94 : Ref sig .tc := ⟨.hbm, 319, rfl⟩
abbrev main_v95 : Ref sig .tc := ⟨.hbm, 320, rfl⟩
abbrev main_cst_32 : Ref sig .tc := ⟨.hbm, 321, rfl⟩
abbrev main_v96 : Ref sig .tc := ⟨.hbm, 322, rfl⟩
abbrev main_v97 : Ref sig .tc := ⟨.hbm, 323, rfl⟩
abbrev main_v98 : Ref sig .tc := ⟨.hbm, 324, rfl⟩
abbrev main_v99 : Ref sig .tc := ⟨.hbm, 325, rfl⟩
abbrev main_v100 : Ref sig .tc := ⟨.hbm, 326, rfl⟩
abbrev main_v101 : Ref sig .tc := ⟨.hbm, 327, rfl⟩
abbrev main_v102 : Ref sig .tc := ⟨.hbm, 328, rfl⟩
abbrev main_cst_33 : Ref sig .tc := ⟨.hbm, 329, rfl⟩
abbrev main_v103 : Ref sig .tc := ⟨.hbm, 330, rfl⟩
abbrev main_c : Ref sig .tc := ⟨.hbm, 331, rfl⟩
abbrev main_v104 : Ref sig .tc := ⟨.hbm, 332, rfl⟩
abbrev main_v105 : Ref sig .tc := ⟨.hbm, 333, rfl⟩
abbrev main_c_34 : Ref sig .tc := ⟨.hbm, 334, rfl⟩
abbrev main_v106 : Ref sig .tc := ⟨.hbm, 335, rfl⟩
abbrev main_v107 : Ref sig .tc := ⟨.hbm, 336, rfl⟩
abbrev main_v108 : Ref sig .tc := ⟨.hbm, 337, rfl⟩
abbrev main_v109 : Ref sig .tc := ⟨.hbm, 338, rfl⟩
abbrev main_v110 : Ref sig .tc := ⟨.hbm, 339, rfl⟩
abbrev main_c_35 : Ref sig .tc := ⟨.hbm, 340, rfl⟩
abbrev main_v111 : Ref sig .tc := ⟨.hbm, 341, rfl⟩
abbrev main_v112 : Ref sig .tc := ⟨.hbm, 342, rfl⟩
abbrev main_c_36 : Ref sig .tc := ⟨.hbm, 343, rfl⟩
abbrev main_v113 : Ref sig .tc := ⟨.hbm, 344, rfl⟩
abbrev main_v114 : Ref sig .tc := ⟨.hbm, 345, rfl⟩
abbrev main_v115 : Ref sig .tc := ⟨.hbm, 346, rfl⟩
abbrev main_v116 : Ref sig .tc := ⟨.hbm, 347, rfl⟩
abbrev main_v117 : Ref sig .tc := ⟨.hbm, 348, rfl⟩
abbrev main_v118 : Ref sig .tc := ⟨.hbm, 349, rfl⟩
abbrev main_v119 : Ref sig .tc := ⟨.hbm, 350, rfl⟩
abbrev main_c_37 : Ref sig .tc := ⟨.hbm, 351, rfl⟩
abbrev main_v120 : Ref sig .tc := ⟨.hbm, 352, rfl⟩
abbrev main_v121 : Ref sig .tc := ⟨.hbm, 353, rfl⟩
abbrev main_c_38 : Ref sig .tc := ⟨.hbm, 354, rfl⟩
abbrev main_v122 : Ref sig .tc := ⟨.hbm, 355, rfl⟩
abbrev main_v123 : Ref sig .tc := ⟨.hbm, 356, rfl⟩
abbrev main_v124 : Ref sig .tc := ⟨.hbm, 357, rfl⟩
abbrev main_v125 : Ref sig .tc := ⟨.hbm, 358, rfl⟩
abbrev main_v126 : Ref sig .tc := ⟨.hbm, 359, rfl⟩
abbrev main_v127 : Ref sig .tc := ⟨.hbm, 360, rfl⟩
abbrev main_v128 : Ref sig .tc := ⟨.hbm, 361, rfl⟩
abbrev main_values : Ref sig .tc := ⟨.hbm, 362, rfl⟩
abbrev main_indices : Ref sig .tc := ⟨.hbm, 363, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S16384 : Shape := ⟨1, ![16384]⟩
abbrev S16384x50 : Shape := ⟨2, ![16384, 50]⟩
abbrev S100000x128 : Shape := ⟨2, ![100000, 128]⟩
abbrev S1000x128 : Shape := ⟨2, ![1000, 128]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩
abbrev S16384x50x1 : Shape := ⟨3, ![16384, 50, 1]⟩
abbrev S1x1x1 : Shape := ⟨3, ![1, 1, 1]⟩
abbrev S16384x50x128 : Shape := ⟨3, ![16384, 50, 128]⟩
abbrev S16384x1x128 : Shape := ⟨3, ![16384, 1, 128]⟩
abbrev S100000 : Shape := ⟨1, ![100000]⟩

abbrev nBuf : Space → Nat
  | .hbm => 336
  | .vmem => 0
  | .smem => 0
  | _ => 0

abbrev hbmTy0_0 (i : Nat) : BufTy := match i % 128 with
  | 0 => ⟨S16384, .i32⟩
  | 1 => ⟨S16384, .i32⟩
  | 2 => ⟨S16384, .i32⟩
  | 3 => ⟨S16384x50, .i32⟩
  | 4 => ⟨S100000x128, .f32⟩
  | 5 => ⟨S1000x128, .f32⟩
  | 6 => ⟨S_, .i32⟩
  | 7 => ⟨S16384, .i32⟩
  | 8 => ⟨S16384, .i1⟩
  | 9 => ⟨S_, .i32⟩
  | 10 => ⟨S16384, .i32⟩
  | 11 => ⟨S16384, .i32⟩
  | 12 => ⟨S16384, .i32⟩
  | 13 => ⟨S16384x1, .i32⟩
  | 14 => ⟨S1, .i32⟩
  | 15 => ⟨S_, .i32⟩
  | 16 => ⟨S16384x1, .i32⟩
  | 17 => ⟨S16384x1, .i1⟩
  | 18 => ⟨S1x1, .i32⟩
  | 19 => ⟨S16384x1, .i32⟩
  | 20 => ⟨S16384x1, .i1⟩
  | 21 => ⟨S16384x1, .i1⟩
  | 22 => ⟨S_, .i1⟩
  | 23 => ⟨S16384, .i1⟩
  | 24 => ⟨S16384x128, .f32⟩
  | 25 => ⟨S16384x128, .i1⟩
  | 26 => ⟨S_, .f32⟩
  | 27 => ⟨S16384x128, .f32⟩
  | 28 => ⟨S16384x128, .f32⟩
  | 29 => ⟨S_, .i32⟩
  | 30 => ⟨S16384, .i32⟩
  | 31 => ⟨S16384, .i1⟩
  | 32 => ⟨S_, .i32⟩
  | 33 => ⟨S16384, .i32⟩
  | 34 => ⟨S16384, .i32⟩
  | 35 => ⟨S16384, .i32⟩
  | 36 => ⟨S16384x1, .i32⟩
  | 37 => ⟨S1, .i32⟩
  | 38 => ⟨S_, .i32⟩
  | 39 => ⟨S16384x1, .i32⟩
  | 40 => ⟨S16384x1, .i1⟩
  | 41 => ⟨S1x1, .i32⟩
  | 42 => ⟨S16384x1, .i32⟩
  | 43 => ⟨S16384x1, .i1⟩
  | 44 => ⟨S16384x1, .i1⟩
  | 45 => ⟨S_, .i1⟩
  | 46 => ⟨S16384, .i1⟩
  | 47 => ⟨S16384x128, .f32⟩
  | 48 => ⟨S16384x128, .i1⟩
  | 49 => ⟨S_, .f32⟩
  | 50 => ⟨S16384x128, .f32⟩
  | 51 => ⟨S16384x128, .f32⟩
  | 52 => ⟨S_, .i32⟩
  | 53 => ⟨S16384, .i32⟩
  | 54 => ⟨S16384, .i1⟩
  | 55 => ⟨S_, .i32⟩
  | 56 => ⟨S16384, .i32⟩
  | 57 => ⟨S16384, .i32⟩
  | 58 => ⟨S16384, .i32⟩
  | 59 => ⟨S16384x1, .i32⟩
  | 60 => ⟨S1, .i32⟩
  | 61 => ⟨S_, .i32⟩
  | 62 => ⟨S16384x1, .i32⟩
  | 63 => ⟨S16384x1, .i1⟩
  | 64 => ⟨S1x1, .i32⟩
  | 65 => ⟨S16384x1, .i32⟩
  | 66 => ⟨S16384x1, .i1⟩
  | 67 => ⟨S16384x1, .i1⟩
  | 68 => ⟨S_, .i1⟩
  | 69 => ⟨S16384, .i1⟩
  | 70 => ⟨S16384x128, .f32⟩
  | 71 => ⟨S16384x128, .i1⟩
  | 72 => ⟨S_, .f32⟩
  | 73 => ⟨S16384x128, .f32⟩
  | 74 => ⟨S16384x128, .f32⟩
  | 75 => ⟨S16384x128, .f32⟩
  | 76 => ⟨S16384x128, .f32⟩
  | 77 => ⟨S16384x128, .f32⟩
  | 78 => ⟨S_, .f32⟩
  | 79 => ⟨S16384x128, .f32⟩
  | 80 => ⟨S16384x128, .i1⟩
  | 81 => ⟨S_, .f32⟩
  | 82 => ⟨S16384, .f32⟩
  | 83 => ⟨S_, .f32⟩
  | 84 => ⟨S16384, .f32⟩
  | 85 => ⟨S16384, .f32⟩
  | 86 => ⟨S_, .i32⟩
  | 87 => ⟨S16384x50, .i32⟩
  | 88 => ⟨S16384x50, .i1⟩
  | 89 => ⟨S_, .i32⟩
  | 90 => ⟨S16384x50, .i32⟩
  | 91 => ⟨S16384x50, .i32⟩
  | 92 => ⟨S16384x50, .i32⟩
  | 93 => ⟨S16384x50x1, .i32⟩
  | 94 => ⟨S1, .i32⟩
  | 95 => ⟨S_, .i32⟩
  | 96 => ⟨S16384x50x1, .i32⟩
  | 97 => ⟨S16384x50x1, .i1⟩
  | 98 => ⟨S1x1x1, .i32⟩
  | 99 => ⟨S16384x50x1, .i32⟩
  | 100 => ⟨S16384x50x1, .i1⟩
  | 101 => ⟨S16384x50x1, .i1⟩
  | 102 => ⟨S_, .i1⟩
  | 103 => ⟨S16384x50, .i1⟩
  | 104 => ⟨S16384x50x128, .f32⟩
  | 105 => ⟨S16384x50x128, .i1⟩
  | 106 => ⟨S_, .f32⟩
  | 107 => ⟨S16384x50x128, .f32⟩
  | 108 => ⟨S16384x50x128, .f32⟩
  | 109 => ⟨S16384x128, .f32⟩
  | 110 => ⟨S16384x1x128, .f32⟩
  | 111 => ⟨S16384x50x128, .f32⟩
  | 112 => ⟨S16384x50x128, .f32⟩
  | 113 => ⟨S16384x50x128, .f32⟩
  | 114 => ⟨S_, .f32⟩
  | 115 => ⟨S16384x50x128, .f32⟩
  | 116 => ⟨S16384x50x128, .i1⟩
  | 117 => ⟨S_, .f32⟩
  | 118 => ⟨S16384x50, .f32⟩
  | 119 => ⟨S_, .f32⟩
  | 120 => ⟨S16384x50, .f32⟩
  | 121 => ⟨S16384x50, .f32⟩
  | 122 => ⟨S_, .f32⟩
  | 123 => ⟨S16384x50, .f32⟩
  | 124 => ⟨S16384x50, .f32⟩
  | 125 => ⟨S_, .f32⟩
  | 126 => ⟨S16384, .f32⟩
  | 127 => ⟨S16384x1, .f32⟩
  | _ => ⟨S16384, .i32⟩

abbrev hbmTy0_1 (i : Nat) : BufTy := match i % 128 with
  | 0 => ⟨S16384x50, .f32⟩
  | 1 => ⟨S16384x50, .i1⟩
  | 2 => ⟨S16384x50, .f32⟩
  | 3 => ⟨S_, .f32⟩
  | 4 => ⟨S16384, .f32⟩
  | 5 => ⟨S_, .f32⟩
  | 6 => ⟨S16384, .f32⟩
  | 7 => ⟨S16384, .f32⟩
  | 8 => ⟨S_, .f32⟩
  | 9 => ⟨S16384, .f32⟩
  | 10 => ⟨S16384, .i1⟩
  | 11 => ⟨S_, .f32⟩
  | 12 => ⟨S16384, .f32⟩
  | 13 => ⟨S16384, .i1⟩
  | 14 => ⟨S_, .f32⟩
  | 15 => ⟨S16384, .f32⟩
  | 16 => ⟨S_, .f32⟩
  | 17 => ⟨S16384, .f32⟩
  | 18 => ⟨S_, .f32⟩
  | 19 => ⟨S16384, .f32⟩
  | 20 => ⟨S16384, .f32⟩
  | 21 => ⟨S16384, .f32⟩
  | 22 => ⟨S16384x1, .f32⟩
  | 23 => ⟨S16384x50, .f32⟩
  | 24 => ⟨S16384x50, .f32⟩
  | 25 => ⟨S16384x50, .f32⟩
  | 26 => ⟨S_, .f32⟩
  | 27 => ⟨S16384, .f32⟩
  | 28 => ⟨S16384x1, .f32⟩
  | 29 => ⟨S16384x50, .f32⟩
  | 30 => ⟨S16384x50, .f32⟩
  | 31 => ⟨S16384x1, .f32⟩
  | 32 => ⟨S_, .f32⟩
  | 33 => ⟨S16384x1, .f32⟩
  | 34 => ⟨S16384x1, .f32⟩
  | 35 => ⟨S16384x50, .f32⟩
  | 36 => ⟨S16384x50, .f32⟩
  | 37 => ⟨S_, .f32⟩
  | 38 => ⟨S16384x50, .f32⟩
  | 39 => ⟨S16384x50, .f32⟩
  | 40 => ⟨S16384x50, .f32⟩
  | 41 => ⟨S16384x50, .f32⟩
  | 42 => ⟨S16384x50, .i1⟩
  | 43 => ⟨S16384x50, .f32⟩
  | 44 => ⟨S16384x50, .f32⟩
  | 45 => ⟨S16384x50, .f32⟩
  | 46 => ⟨S16384x50, .f32⟩
  | 47 => ⟨S16384x50, .f32⟩
  | 48 => ⟨S16384x50, .f32⟩
  | 49 => ⟨S16384x50, .f32⟩
  | 50 => ⟨S16384x50, .f32⟩
  | 51 => ⟨S_, .f32⟩
  | 52 => ⟨S16384x50, .f32⟩
  | 53 => ⟨S16384x50, .i1⟩
  | 54 => ⟨S_, .f32⟩
  | 55 => ⟨S16384x50, .f32⟩
  | 56 => ⟨S16384x50, .f32⟩
  | 57 => ⟨S_, .f32⟩
  | 58 => ⟨S16384x50, .f32⟩
  | 59 => ⟨S16384x50, .i1⟩
  | 60 => ⟨S_, .f32⟩
  | 61 => ⟨S16384x50, .f32⟩
  | 62 => ⟨S16384x50, .f32⟩
  | 63 => ⟨S16384x50, .f32⟩
  | 64 => ⟨S16384x50, .f32⟩
  | 65 => ⟨S_, .f32⟩
  | 66 => ⟨S_, .f32⟩
  | 67 => ⟨S_, .i1⟩
  | 68 => ⟨S_, .f32⟩
  | 69 => ⟨S_, .f32⟩
  | 70 => ⟨S_, .f32⟩
  | 71 => ⟨S_, .f32⟩
  | 72 => ⟨S16384x50, .f32⟩
  | 73 => ⟨S16384x50, .i1⟩
  | 74 => ⟨S_, .f32⟩
  | 75 => ⟨S16384x50, .f32⟩
  | 76 => ⟨S16384x50, .f32⟩
  | 77 => ⟨S16384x50, .f32⟩
  | 78 => ⟨S16384x50, .f32⟩
  | 79 => ⟨S16384x50, .f32⟩
  | 80 => ⟨S_, .f32⟩
  | 81 => ⟨S16384x50, .f32⟩
  | 82 => ⟨S16384x50, .f32⟩
  | 83 => ⟨S16384x50, .f32⟩
  | 84 => ⟨S16384x50, .f32⟩
  | 85 => ⟨S_, .f32⟩
  | 86 => ⟨S16384, .f32⟩
  | 87 => ⟨S16384, .f32⟩
  | 88 => ⟨S_, .f32⟩
  | 89 => ⟨S16384, .f32⟩
  | 90 => ⟨S16384, .f32⟩
  | 91 => ⟨S16384, .f32⟩
  | 92 => ⟨S16384, .f32⟩
  | 93 => ⟨S16384, .i1⟩
  | 94 => ⟨S16384, .f32⟩
  | 95 => ⟨S16384, .f32⟩
  | 96 => ⟨S16384, .f32⟩
  | 97 => ⟨S16384, .f32⟩
  | 98 => ⟨S16384, .f32⟩
  | 99 => ⟨S16384, .f32⟩
  | 100 => ⟨S16384, .f32⟩
  | 101 => ⟨S16384, .f32⟩
  | 102 => ⟨S_, .f32⟩
  | 103 => ⟨S16384, .f32⟩
  | 104 => ⟨S16384, .i1⟩
  | 105 => ⟨S_, .f32⟩
  | 106 => ⟨S16384, .f32⟩
  | 107 => ⟨S16384, .f32⟩
  | 108 => ⟨S_, .f32⟩
  | 109 => ⟨S16384, .f32⟩
  | 110 => ⟨S16384, .i1⟩
  | 111 => ⟨S_, .f32⟩
  | 112 => ⟨S16384, .f32⟩
  | 113 => ⟨S16384, .f32⟩
  | 114 => ⟨S16384, .f32⟩
  | 115 => ⟨S16384, .f32⟩
  | 116 => ⟨S_, .f32⟩
  | 117 => ⟨S_, .f32⟩
  | 118 => ⟨S_, .i1⟩
  | 119 => ⟨S_, .f32⟩
  | 120 => ⟨S_, .f32⟩
  | 121 => ⟨S_, .f32⟩
  | 122 => ⟨S_, .f32⟩
  | 123 => ⟨S16384, .f32⟩
  | 124 => ⟨S16384, .i1⟩
  | 125 => ⟨S_, .f32⟩
  | 126 => ⟨S16384, .f32⟩
  | 127 => ⟨S16384, .f32⟩
  | _ => ⟨S16384, .i32⟩

abbrev hbmTy0_2 (i : Nat) : BufTy := match i % 128 with
  | 0 => ⟨S16384, .f32⟩
  | 1 => ⟨S16384, .f32⟩
  | 2 => ⟨S16384, .f32⟩
  | 3 => ⟨S_, .f32⟩
  | 4 => ⟨S16384, .f32⟩
  | 5 => ⟨S16384, .f32⟩
  | 6 => ⟨S16384, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S16384, .f32⟩
  | 27 => ⟨S_, .f32⟩
  | 28 => ⟨S_, .f32⟩
  | 29 => ⟨S_, .f32⟩
  | 30 => ⟨S16384, .f32⟩
  | 31 => ⟨S16384, .f32⟩
  | 32 => ⟨S16384, .f32⟩
  | 33 => ⟨S16384, .f32⟩
  | 34 => ⟨S16384x50, .f32⟩
  | 35 => ⟨S16384x50, .f32⟩
  | 36 => ⟨S16384x50, .f32⟩
  | 37 => ⟨S16384x50, .f32⟩
  | 38 => ⟨S16384x50, .f32⟩
  | 39 => ⟨S16384x50, .f32⟩
  | 40 => ⟨S16384x50, .f32⟩
  | 41 => ⟨S16384x50x128, .f32⟩
  | 42 => ⟨S_, .f32⟩
  | 43 => ⟨S16384x50x128, .f32⟩
  | 44 => ⟨S16384x50x128, .f32⟩
  | 45 => ⟨S16384x50x128, .f32⟩
  | 46 => ⟨S16384x50x128, .f32⟩
  | 47 => ⟨S16384x50x128, .f32⟩
  | 48 => ⟨S_, .f32⟩
  | 49 => ⟨S16384x128, .f32⟩
  | 50 => ⟨S16384x1x128, .f32⟩
  | 51 => ⟨S16384x50x128, .f32⟩
  | 52 => ⟨S_, .f32⟩
  | 53 => ⟨S16384x128, .f32⟩
  | 54 => ⟨S_, .f32⟩
  | 55 => ⟨S100000x128, .f32⟩
  | 56 => ⟨S100000x128, .f32⟩
  | 57 => ⟨S16384, .f32⟩
  | 58 => ⟨S16384x128, .f32⟩
  | 59 => ⟨S_, .f32⟩
  | 60 => ⟨S16384x128, .f32⟩
  | 61 => ⟨S16384x128, .f32⟩
  | 62 => ⟨S16384x128, .f32⟩
  | 63 => ⟨S16384x128, .f32⟩
  | 64 => ⟨S16384x128, .f32⟩
  | 65 => ⟨S16384x128, .f32⟩
  | 66 => ⟨S16384x128, .f32⟩
  | 67 => ⟨S_, .f32⟩
  | 68 => ⟨S100000x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S100000x128, .f32⟩
  | 76 => ⟨S_, .f32⟩
  | 77 => ⟨S100000, .f32⟩
  | 78 => ⟨S100000, .f32⟩
  | 79 => ⟨S100000, .i32⟩
  | _ => ⟨S16384, .i32⟩

abbrev hbmTy (i : Nat) : BufTy := match i / 128 with
  | 0 => hbmTy0_0 i
  | 1 => hbmTy0_1 i
  | 2 => hbmTy0_2 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0_1 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0_0 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v1 : Ref sig .tc := ⟨.hbm, 51, rfl⟩
abbrev main_call2_c : Ref sig .tc := ⟨.hbm, 52, rfl⟩
abbrev main_call2_v0 : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_v2_1 : Ref sig .tc := ⟨.hbm, 59, rfl⟩
abbrev main_call2_c_1 : Ref sig .tc := ⟨.hbm, 60, rfl⟩
abbrev main_call2_c_2 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_c_3 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_call2_cst : Ref sig .tc := ⟨.hbm, 72, rfl⟩
abbrev main_call2_v15 : Ref sig .tc := ⟨.hbm, 73, rfl⟩
abbrev main_v2_0 : Ref sig .tc := ⟨.hbm, 74, rfl⟩
abbrev main_v3 : Ref sig .tc := ⟨.hbm, 75, rfl⟩
abbrev main_v4 : Ref sig .tc := ⟨.hbm, 76, rfl⟩
abbrev main_v5 : Ref sig .tc := ⟨.hbm, 77, rfl⟩
abbrev main_cst : Ref sig .tc := ⟨.hbm, 78, rfl⟩
abbrev main_v6 : Ref sig .tc := ⟨.hbm, 79, rfl⟩
abbrev main_v7 : Ref sig .tc := ⟨.hbm, 80, rfl⟩
abbrev main_cst_0 : Ref sig .tc := ⟨.hbm, 81, rfl⟩
abbrev main_v8 : Ref sig .tc := ⟨.hbm, 82, rfl⟩
abbrev main_cst_1 : Ref sig .tc := ⟨.hbm, 83, rfl⟩
abbrev main_v9 : Ref sig .tc := ⟨.hbm, 84, rfl⟩
abbrev main_v10 : Ref sig .tc := ⟨.hbm, 85, rfl⟩
abbrev main_call3_c : Ref sig .tc := ⟨.hbm, 86, rfl⟩
abbrev main_call3_v0 : Ref sig .tc := ⟨.hbm, 87, rfl⟩
abbrev main_call3_v1 : Ref sig .tc := ⟨.hbm, 88, rfl⟩
abbrev main_call3_c_0 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_v11_1 : Ref sig .tc := ⟨.hbm, 93, rfl⟩
abbrev main_call3_c_1 : Ref sig .tc := ⟨.hbm, 94, rfl⟩
abbrev main_call3_c_2 : Ref sig .tc := ⟨.hbm, 95, rfl⟩
abbrev main_call3_v6 : Ref sig .tc := ⟨.hbm, 96, rfl⟩
abbrev main_call3_v7 : Ref sig .tc := ⟨.hbm, 97, rfl⟩
abbrev main_call3_v8 : Ref sig .tc := ⟨.hbm, 98, rfl⟩
abbrev main_call3_v9 : Ref sig .tc := ⟨.hbm, 99, rfl⟩
abbrev main_call3_v10 : Ref sig .tc := ⟨.hbm, 100, rfl⟩
abbrev main_call3_v11 : Ref sig .tc := ⟨.hbm, 101, rfl⟩
abbrev main_call3_c_3 : Ref sig .tc := ⟨.hbm, 102, rfl⟩
abbrev main_call3_v12 : Ref sig .tc := ⟨.hbm, 103, rfl⟩
abbrev main_call3_v13 : Ref sig .tc := ⟨.hbm, 104, rfl⟩
abbrev main_call3_v14 : Ref sig .tc := ⟨.hbm, 105, rfl⟩
abbrev main_call3_cst : Ref sig .tc := ⟨.hbm, 106, rfl⟩
abbrev main_call3_v15 : Ref sig .tc := ⟨.hbm, 107, rfl⟩
abbrev main_v11_0 : Ref sig .tc := ⟨.hbm, 108, rfl⟩
abbrev main_v12 : Ref sig .tc := ⟨.hbm, 109, rfl⟩
abbrev main_v13 : Ref sig .tc := ⟨.hbm, 110, rfl⟩
abbrev main_v14 : Ref sig .tc := ⟨.hbm, 111, rfl⟩
abbrev main_v15 : Ref sig .tc := ⟨.hbm, 112, rfl⟩
abbrev main_v16 : Ref sig .tc := ⟨.hbm, 113, rfl⟩
abbrev main_cst_2 : Ref sig .tc := ⟨.hbm, 114, rfl⟩
abbrev main_v17 : Ref sig .tc := ⟨.hbm, 115, rfl⟩
abbrev main_v18 : Ref sig .tc := ⟨.hbm, 116, rfl⟩
abbrev main_cst_3 : Ref sig .tc := ⟨.hbm, 117, rfl⟩
abbrev main_v19 : Ref sig .tc := ⟨.hbm, 118, rfl⟩
abbrev main_cst_4 : Ref sig .tc := ⟨.hbm, 119, rfl⟩
abbrev main_v20 : Ref sig .tc := ⟨.hbm, 120, rfl⟩
abbrev main_v21 : Ref sig .tc := ⟨.hbm, 121, rfl⟩
abbrev main_cst_5 : Ref sig .tc := ⟨.hbm, 122, rfl⟩
abbrev main_v22 : Ref sig .tc := ⟨.hbm, 123, rfl⟩
abbrev main_v23 : Ref sig .tc := ⟨.hbm, 124, rfl⟩
abbrev main_cst_6 : Ref sig .tc := ⟨.hbm, 125, rfl⟩
abbrev main_v24 : Ref sig .tc := ⟨.hbm, 126, rfl⟩
abbrev main_v25 : Ref sig .tc := ⟨.hbm, 127, rfl⟩
abbrev main_v26 : Ref sig .tc := ⟨.hbm, 128, rfl⟩
abbrev main_v27 : Ref sig .tc := ⟨.hbm, 129, rfl⟩
abbrev main_v28 : Ref sig .tc := ⟨.hbm, 130, rfl⟩
abbrev main_cst_7 : Ref sig .tc := ⟨.hbm, 131, rfl⟩
abbrev main_v29 : Ref sig .tc := ⟨.hbm, 132, rfl⟩
abbrev main_cst_8 : Ref sig .tc := ⟨.hbm, 133, rfl⟩
abbrev main_v30 : Ref sig .tc := ⟨.hbm, 134, rfl⟩
abbrev main_v31 : Ref sig .tc := ⟨.hbm, 135, rfl⟩
abbrev main_cst_9 : Ref sig .tc := ⟨.hbm, 136, rfl⟩
abbrev main_v32 : Ref sig .tc := ⟨.hbm, 137, rfl⟩
abbrev main_v33 : Ref sig .tc := ⟨.hbm, 138, rfl⟩
abbrev main_cst_10 : Ref sig .tc := ⟨.hbm, 139, rfl⟩
abbrev main_v34 : Ref sig .tc := ⟨.hbm, 140, rfl⟩
abbrev main_v35 : Ref sig .tc := ⟨.hbm, 141, rfl⟩
abbrev main_cst_11 : Ref sig .tc := ⟨.hbm, 142, rfl⟩
abbrev main_v36 : Ref sig .tc := ⟨.hbm, 143, rfl⟩
abbrev main_cst_12 : Ref sig .tc := ⟨.hbm, 144, rfl⟩
abbrev main_v37 : Ref sig .tc := ⟨.hbm, 145, rfl⟩
abbrev main_cst_13 : Ref sig .tc := ⟨.hbm, 146, rfl⟩
abbrev main_v38 : Ref sig .tc := ⟨.hbm, 147, rfl⟩
abbrev main_v39 : Ref sig .tc := ⟨.hbm, 148, rfl⟩
abbrev main_v40 : Ref sig .tc := ⟨.hbm, 149, rfl⟩
abbrev main_v41 : Ref sig .tc := ⟨.hbm, 150, rfl⟩
abbrev main_v42 : Ref sig .tc := ⟨.hbm, 151, rfl⟩
abbrev main_v43 : Ref sig .tc := ⟨.hbm, 152, rfl⟩
abbrev main_v44 : Ref sig .tc := ⟨.hbm, 153, rfl⟩
abbrev main_cst_14 : Ref sig .tc := ⟨.hbm, 154, rfl⟩
abbrev main_v45 : Ref sig .tc := ⟨.hbm, 155, rfl⟩
abbrev main_v46 : Ref sig .tc := ⟨.hbm, 156, rfl⟩
abbrev main_v47 : Ref sig .tc := ⟨.hbm, 157, rfl⟩
abbrev main_v48 : Ref sig .tc := ⟨.hbm, 158, rfl⟩
abbrev main_v49 : Ref sig .tc := ⟨.hbm, 159, rfl⟩
abbrev main_cst_15 : Ref sig .tc := ⟨.hbm, 160, rfl⟩
abbrev main_v50 : Ref sig .tc := ⟨.hbm, 161, rfl⟩
abbrev main_v51 : Ref sig .tc := ⟨.hbm, 162, rfl⟩
abbrev main_v52 : Ref sig .tc := ⟨.hbm, 163, rfl⟩
abbrev main_call4_v0 : Ref sig .tc := ⟨.hbm, 164, rfl⟩
abbrev main_call4_call0_cst : Ref sig .tc := ⟨.hbm, 165, rfl⟩
abbrev main_call4_call0_v0 : Ref sig .tc := ⟨.hbm, 166, rfl⟩
abbrev main_call4_call0_v1 : Ref sig .tc := ⟨.hbm, 167, rfl⟩
abbrev main_call4_call0_v2 : Ref sig .tc := ⟨.hbm, 168, rfl⟩
abbrev main_call4_call0_v3 : Ref sig .tc := ⟨.hbm, 169, rfl⟩
abbrev main_call4_call0_v4 : Ref sig .tc := ⟨.hbm, 170, rfl⟩
abbrev main_call4_call0_v5 : Ref sig .tc := ⟨.hbm, 171, rfl⟩
abbrev main_call4_call0_v6 : Ref sig .tc := ⟨.hbm, 172, rfl⟩
abbrev main_call4_call0_v7 : Ref sig .tc := ⟨.hbm, 173, rfl⟩
abbrev main_call4_call0_v8 : Ref sig .tc := ⟨.hbm, 174, rfl⟩
abbrev main_call4_call0_v9 : Ref sig .tc := ⟨.hbm, 175, rfl⟩
abbrev main_call4_call0_v10 : Ref sig .tc := ⟨.hbm, 176, rfl⟩
abbrev main_call4_call0_v11 : Ref sig .tc := ⟨.hbm, 177, rfl⟩
abbrev main_call4_v1_0 : Ref sig .tc := ⟨.hbm, 178, rfl⟩
abbrev main_call4_call0_cst_0 : Ref sig .tc := ⟨.hbm, 179, rfl⟩
abbrev main_call4_call0_v13 : Ref sig .tc := ⟨.hbm, 180, rfl⟩
abbrev main_call4_call0_v14 : Ref sig .tc := ⟨.hbm, 181, rfl⟩
abbrev main_call4_call0_cst_1 : Ref sig .tc := ⟨.hbm, 182, rfl⟩
abbrev main_call4_call0_v15 : Ref sig .tc := ⟨.hbm, 183, rfl⟩
abbrev main_call4_call0_v16 : Ref sig .tc := ⟨.hbm, 184, rfl⟩
abbrev main_call4_call0_cst_2 : Ref sig .tc := ⟨.hbm, 185, rfl⟩
abbrev main_call4_call0_v17 : Ref sig .tc := ⟨.hbm, 186, rfl⟩
abbrev main_call4_call0_v18 : Ref sig .tc := ⟨.hbm, 187, rfl⟩
abbrev main_call4_call0_cst_3 : Ref sig .tc := ⟨.hbm, 188, rfl⟩
abbrev main_call4_call0_v19 : Ref sig .tc := ⟨.hbm, 189, rfl⟩
abbrev main_call4_call0_v20 : Ref sig .tc := ⟨.hbm, 190, rfl⟩
abbrev main_call4_call0_v21 : Ref sig .tc := ⟨.hbm, 191, rfl⟩
abbrev main_v53_1 : Ref sig .tc := ⟨.hbm, 192, rfl⟩
abbrev main_call4_call0_cst_4 : Ref sig .tc := ⟨.hbm, 193, rfl⟩
abbrev main_call4_call0_cst_5 : Ref sig .tc := ⟨.hbm, 194, rfl⟩
abbrev main_call4_call0_v23 : Ref sig .tc := ⟨.hbm, 195, rfl⟩
abbrev main_call4_call0_cst_6 : Ref sig .tc := ⟨.hbm, 196, rfl⟩
abbrev main_call4_call0_cst_7 : Ref sig .tc := ⟨.hbm, 197, rfl⟩
abbrev main_call4_call0_v24 : Ref sig .tc := ⟨.hbm, 198, rfl⟩
abbrev main_call4_call0_cst_8 : Ref sig .tc := ⟨.hbm, 199, rfl⟩
abbrev main_call4_call0_v25 : Ref sig .tc := ⟨.hbm, 200, rfl⟩
abbrev main_call4_call0_v26 : Ref sig .tc := ⟨.hbm, 201, rfl⟩
abbrev main_call4_call0_cst_9 : Ref sig .tc := ⟨.hbm, 202, rfl⟩
abbrev main_call4_call0_v27 : Ref sig .tc := ⟨.hbm, 203, rfl⟩
abbrev main_call4_call0_v28 : Ref sig .tc := ⟨.hbm, 204, rfl⟩
abbrev main_call4_call0_v29 : Ref sig .tc := ⟨.hbm, 205, rfl⟩
abbrev main_call4_call0_v30 : Ref sig .tc := ⟨.hbm, 206, rfl⟩
abbrev main_call4_call0_v31 : Ref sig .tc := ⟨.hbm, 207, rfl⟩
abbrev main_call4_call0_cst_10 : Ref sig .tc := ⟨.hbm, 208, rfl⟩
abbrev main_call4_call0_v32 : Ref sig .tc := ⟨.hbm, 209, rfl⟩
abbrev main_v53_2 : Ref sig .tc := ⟨.hbm, 210, rfl⟩
abbrev main_v53_0 : Ref sig .tc := ⟨.hbm, 211, rfl⟩
abbrev main_v54 : Ref sig .tc := ⟨.hbm, 212, rfl⟩
abbrev main_cst_16 : Ref sig .tc := ⟨.hbm, 213, rfl⟩
abbrev main_v55 : Ref sig .tc := ⟨.hbm, 214, rfl⟩
abbrev main_call5_v0 : Ref sig .tc := ⟨.hbm, 215, rfl⟩
abbrev main_call5_call0_cst : Ref sig .tc := ⟨.hbm, 216, rfl⟩
abbrev main_call5_call0_v0 : Ref sig .tc := ⟨.hbm, 217, rfl⟩
abbrev main_call5_call0_v1 : Ref sig .tc := ⟨.hbm, 218, rfl⟩
abbrev main_call5_call0_v2 : Ref sig .tc := ⟨.hbm, 219, rfl⟩
abbrev main_call5_call0_v3 : Ref sig .tc := ⟨.hbm, 220, rfl⟩
abbrev main_call5_call0_v4 : Ref sig .tc := ⟨.hbm, 221, rfl⟩
abbrev main_call5_call0_v5 : Ref sig .tc := ⟨.hbm, 222, rfl⟩
abbrev main_call5_call0_v6 : Ref sig .tc := ⟨.hbm, 223, rfl⟩
abbrev main_call5_call0_v7 : Ref sig .tc := ⟨.hbm, 224, rfl⟩
abbrev main_call5_call0_v8 : Ref sig .tc := ⟨.hbm, 225, rfl⟩
abbrev main_call5_call0_v9 : Ref sig .tc := ⟨.hbm, 226, rfl⟩
abbrev main_call5_call0_v10 : Ref sig .tc := ⟨.hbm, 227, rfl⟩
abbrev main_call5_call0_v11 : Ref sig .tc := ⟨.hbm, 228, rfl⟩
abbrev main_call5_v1_0 : Ref sig .tc := ⟨.hbm, 229, rfl⟩
abbrev main_call5_call0_cst_0 : Ref sig .tc := ⟨.hbm, 230, rfl⟩
abbrev main_call5_call0_v13 : Ref sig .tc := ⟨.hbm, 231, rfl⟩
abbrev main_call5_call0_v14 : Ref sig .tc := ⟨.hbm, 232, rfl⟩
abbrev main_call5_call0_cst_1 : Ref sig .tc := ⟨.hbm, 233, rfl⟩
abbrev main_call5_call0_v15 : Ref sig .tc := ⟨.hbm, 234, rfl⟩
abbrev main_call5_call0_v16 : Ref sig .tc := ⟨.hbm, 235, rfl⟩
abbrev main_call5_call0_cst_2 : Ref sig .tc := ⟨.hbm, 236, rfl⟩
abbrev main_call5_call0_v17 : Ref sig .tc := ⟨.hbm, 237, rfl⟩
abbrev main_call5_call0_v18 : Ref sig .tc := ⟨.hbm, 238, rfl⟩
abbrev main_call5_call0_cst_3 : Ref sig .tc := ⟨.hbm, 239, rfl⟩
abbrev main_call5_call0_v19 : Ref sig .tc := ⟨.hbm, 240, rfl⟩
abbrev main_call5_call0_v20 : Ref sig .tc := ⟨.hbm, 241, rfl⟩
abbrev main_call5_call0_v21 : Ref sig .tc := ⟨.hbm, 242, rfl⟩
abbrev main_v56_1 : Ref sig .tc := ⟨.hbm, 243, rfl⟩
abbrev main_call5_call0_cst_4 : Ref sig .tc := ⟨.hbm, 244, rfl⟩
abbrev main_call5_call0_cst_5 : Ref sig .tc := ⟨.hbm, 245, rfl⟩
abbrev main_call5_call0_v23 : Ref sig .tc := ⟨.hbm, 246, rfl⟩
abbrev main_call5_call0_cst_6 : Ref sig .tc := ⟨.hbm, 247, rfl⟩
abbrev main_call5_call0_cst_7 : Ref sig .tc := ⟨.hbm, 248, rfl⟩
abbrev main_call5_call0_v24 : Ref sig .tc := ⟨.hbm, 249, rfl⟩
abbrev main_call5_call0_cst_8 : Ref sig .tc := ⟨.hbm, 250, rfl⟩
abbrev main_call5_call0_v25 : Ref sig .tc := ⟨.hbm, 251, rfl⟩
abbrev main_call5_call0_v26 : Ref sig .tc := ⟨.hbm, 252, rfl⟩
abbrev main_call5_call0_cst_9 : Ref sig .tc := ⟨.hbm, 253, rfl⟩
abbrev main_call5_call0_v27 : Ref sig .tc := ⟨.hbm, 254, rfl⟩
abbrev main_call5_call0_v28 : Ref sig .tc := ⟨.hbm, 255, rfl⟩
abbrev main_call5_call0_v29 : Ref sig .tc := ⟨.hbm, 256, rfl⟩
abbrev main_call5_call0_v30 : Ref sig .tc := ⟨.hbm, 257, rfl⟩
abbrev main_call5_call0_v31 : Ref sig .tc := ⟨.hbm, 258, rfl⟩
abbrev main_call5_call0_cst_10 : Ref sig .tc := ⟨.hbm, 259, rfl⟩
abbrev main_call5_call0_v32 : Ref sig .tc := ⟨.hbm, 260, rfl⟩
abbrev main_v56_2 : Ref sig .tc := ⟨.hbm, 261, rfl⟩
abbrev main_v56_0 : Ref sig .tc := ⟨.hbm, 262, rfl⟩
abbrev main_cst_17 : Ref sig .tc := ⟨.hbm, 263, rfl⟩
abbrev main_v57 : Ref sig .tc := ⟨.hbm, 264, rfl⟩
abbrev main_cst_18 : Ref sig .tc := ⟨.hbm, 265, rfl⟩
abbrev main_v58 : Ref sig .tc := ⟨.hbm, 266, rfl⟩
abbrev main_v59 : Ref sig .tc := ⟨.hbm, 267, rfl⟩
abbrev main_cst_19 : Ref sig .tc := ⟨.hbm, 268, rfl⟩
abbrev main_v60 : Ref sig .tc := ⟨.hbm, 269, rfl⟩
abbrev main_cst_20 : Ref sig .tc := ⟨.hbm, 270, rfl⟩
abbrev main_v61 : Ref sig .tc := ⟨.hbm, 271, rfl⟩
abbrev main_v62 : Ref sig .tc := ⟨.hbm, 272, rfl⟩
abbrev main_v63 : Ref sig .tc := ⟨.hbm, 273, rfl⟩
abbrev main_cst_21 : Ref sig .tc := ⟨.hbm, 274, rfl⟩
abbrev main_v64 : Ref sig .tc := ⟨.hbm, 275, rfl⟩
abbrev main_cst_22 : Ref sig .tc := ⟨.hbm, 276, rfl⟩
abbrev main_cst_23 : Ref sig .tc := ⟨.hbm, 277, rfl⟩
abbrev main_v65 : Ref sig .tc := ⟨.hbm, 278, rfl⟩
abbrev main_v66 : Ref sig .tc := ⟨.hbm, 279, rfl⟩
abbrev main_cst_24 : Ref sig .tc := ⟨.hbm, 280, rfl⟩
abbrev main_v67 : Ref sig .tc := ⟨.hbm, 281, rfl⟩
abbrev main_v68 : Ref sig .tc := ⟨.hbm, 282, rfl⟩
abbrev main_v69 : Ref sig .tc := ⟨.hbm, 283, rfl⟩
abbrev main_cst_25 : Ref sig .tc := ⟨.hbm, 284, rfl⟩
abbrev main_v70 : Ref sig .tc := ⟨.hbm, 285, rfl⟩
abbrev main_v71 : Ref sig .tc := ⟨.hbm, 286, rfl⟩
abbrev main_call6_v0 : Ref sig .tc := ⟨.hbm, 287, rfl⟩
abbrev main_call6_v1 : Ref sig .tc := ⟨.hbm, 288, rfl⟩
abbrev main_v72 : Ref sig .tc := ⟨.hbm, 289, rfl⟩
abbrev main_v73 : Ref sig .tc := ⟨.hbm, 290, rfl⟩
abbrev main_v74 : Ref sig .tc := ⟨.hbm, 291, rfl⟩
abbrev main_call7_v0 : Ref sig .tc := ⟨.hbm, 292, rfl⟩
abbrev main_call7_v1 : Ref sig .tc := ⟨.hbm, 293, rfl⟩
abbrev main_v75 : Ref sig .tc := ⟨.hbm, 294, rfl⟩
abbrev main_v76 : Ref sig .tc := ⟨.hbm, 295, rfl⟩
abbrev main_v77 : Ref sig .tc := ⟨.hbm, 296, rfl⟩
abbrev main_v78 : Ref sig .tc := ⟨.hbm, 297, rfl⟩
abbrev main_cst_26 : Ref sig .tc := ⟨.hbm, 298, rfl⟩
abbrev main_v79 : Ref sig .tc := ⟨.hbm, 299, rfl⟩
abbrev main_v80 : Ref sig .tc := ⟨.hbm, 300, rfl⟩
abbrev main_v81 : Ref sig .tc := ⟨.hbm, 301, rfl⟩
abbrev main_v82 : Ref sig .tc := ⟨.hbm, 302, rfl⟩
abbrev main_v83 : Ref sig .tc := ⟨.hbm, 303, rfl⟩
abbrev main_cst_27 : Ref sig .tc := ⟨.hbm, 304, rfl⟩
abbrev main_v84 : Ref sig .tc := ⟨.hbm, 305, rfl⟩
abbrev main_v85 : Ref sig .tc := ⟨.hbm, 306, rfl⟩
abbrev main_v86 : Ref sig .tc := ⟨.hbm, 307, rfl⟩
abbrev main_cst_28 : Ref sig .tc := ⟨.hbm, 308, rfl⟩
abbrev main_v87 : Ref sig .tc := ⟨.hbm, 309, rfl⟩
abbrev main_call8_cst : Ref sig .tc := ⟨.hbm, 310, rfl⟩
abbrev main_call8_v0 : Ref sig .tc := ⟨.hbm, 311, rfl⟩
abbrev main_v88 : Ref sig .tc := ⟨.hbm, 312, rfl⟩
abbrev main_v89 : Ref sig .tc := ⟨.hbm, 313, rfl⟩
abbrev main_v90 : Ref sig .tc := ⟨.hbm, 314, rfl⟩
abbrev main_cst_29 : Ref sig .tc := ⟨.hbm, 315, rfl⟩
abbrev main_v91 : Ref sig .tc := ⟨.hbm, 316, rfl⟩
abbrev main_v92 : Ref sig .tc := ⟨.hbm, 317, rfl⟩
abbrev main_v93 : Ref sig .tc := ⟨.hbm, 318, rfl⟩
abbrev main_v94 : Ref sig .tc := ⟨.hbm, 319, rfl⟩
abbrev main_v95 : Ref sig .tc := ⟨.hbm, 320, rfl⟩
abbrev main_v96 : Ref sig .tc := ⟨.hbm, 321, rfl⟩
abbrev main_v97 : Ref sig .tc := ⟨.hbm, 322, rfl⟩
abbrev main_call9_cst : Ref sig .tc := ⟨.hbm, 323, rfl⟩
abbrev main_call9_v0 : Ref sig .tc := ⟨.hbm, 324, rfl⟩
abbrev main_v98 : Ref sig .tc := ⟨.hbm, 325, rfl⟩
abbrev main_v99 : Ref sig .tc := ⟨.hbm, 326, rfl⟩
abbrev main_call10_cst : Ref sig .tc := ⟨.hbm, 327, rfl⟩
abbrev main_call10_v0 : Ref sig .tc := ⟨.hbm, 328, rfl⟩
abbrev main_v100 : Ref sig .tc := ⟨.hbm, 329, rfl⟩
abbrev main_v101 : Ref sig .tc := ⟨.hbm, 330, rfl⟩
abbrev main_v102 : Ref sig .tc := ⟨.hbm, 331, rfl⟩
abbrev main_cst_30 : Ref sig .tc := ⟨.hbm, 332, rfl⟩
abbrev main_v103 : Ref sig .tc := ⟨.hbm, 333, rfl⟩
abbrev main_values : Ref sig .tc := ⟨.hbm, 334, rfl⟩
abbrev main_indices : Ref sig .tc := ⟨.hbm, 335, rfl⟩

abbrev nD : Nat := 1
abbrev τ : Topo := Topo.v7x

variable {F : FTy → Type} [FloatOps F]
-- ==== Proof.BlockSum.lean ====
/- WHAT ONE BLOCK COMPUTES.  The kernel's body sums each row of a block of 128 lanes without a reduction: it adds the row to itself
   rotated left by 8, 16, …, 120 lanes, which leaves in each lane the sum of the sixteen lanes eight apart, and then adds what it
   has to itself rotated by 4, by 2 and by 1. Lane 0 then holds the sum of all 128 lanes. -/
module

public import proofs.«01_k».proof.Proof.Gen.KernelIdeal.Skeleton
public import Idealize.ShloMosaic.PureOps.Ideal.Laws
public import Idealize.ShloMosaic.Lib.Pipeline.Value
public import Idealize.ShloMosaic.Lib.ValueIdxCore

@[expose] public section

set_option maxRecDepth 16384

noncomputable section

namespace Cert.KernelIdeal.Block

open Cert.KernelIdeal Cert.KernelIdeal.Gen Idealize.ShloMosaic Idealize.ShloMosaic.ValueIdx

/-- Row `r` of a block at lane `n`, the lanes counted round and round. -/
def lane (x : FVec Ideal S400x128 .f32) (r : Fin 400) (n : ℕ) : EReal := x (ix2 r (⟨n % 128, Nat.mod_lt _ (by decide)⟩ : Fin 128))

/-- A sum of two blocks, lane by lane. -/
theorem lane_addf (x y : FVec Ideal S400x128 .f32) (r : Fin 400) (n : ℕ) : lane (addf x y) r n = lane x r n + lane y r n := rfl

/-- A ROTATION: the lanes from `k` on followed by the first `k` are the block `k` lanes further on. -/
theorem lane_rotated {a k : ℕ} (hk : a + k = 128) (x : FVec Ideal S400x128 .f32)
    (h₁ : S400x128.Slices ![0, k] ⟨2, ![400, a]⟩) (h₂ : S400x128.Slices ![0, 0] ⟨2, ![400, k]⟩)
    (h : Shape.Concatenates [⟨2, ![400, a]⟩, ⟨2, ![400, k]⟩] S400x128 1) (r : Fin 400) (n : ℕ) :
    lane (concatenate S400x128 1 [⟨⟨2, ![400, a]⟩, extractStridedSlice ⟨2, ![400, a]⟩ ![0, k] x h₁⟩,
      ⟨⟨2, ![400, k]⟩, extractStridedSlice ⟨2, ![400, k]⟩ ![0, 0] x h₂⟩] h) r n = lane x r (n + k) := by
  have hn : n % 128 < 128 := Nat.mod_lt _ (by decide)
  unfold lane
  by_cases hl : n % 128 < a
  · refine (concatenate_pair_apply_left (s₁ := ⟨2, ![400, a]⟩) (s₂ := ⟨2, ![400, k]⟩) 1 _ _ h _ rfl (ix2 r ⟨n % 128, hl⟩) ?_).trans ?_
    · intro b; fin_cases b <;> rfl
    · refine congrArg x (funext fun b => Fin.ext ?_)
      match b with
      | ⟨0, _⟩ => show 0 + r.val = r.val; omega
      | ⟨1, _⟩ => show k + n % 128 = (n + k) % 128; omega
  · refine (concatenate_pair_apply_right (s₁ := ⟨2, ![400, a]⟩) (s₂ := ⟨2, ![400, k]⟩) 1 _ _ h _ rfl rfl (ix2 r ⟨n % 128 - a, by omega⟩) ?_ ?_).trans ?_
    · intro b hb
      match b with
      | ⟨0, _⟩ => rfl
      | ⟨1, _⟩ => exact absurd rfl hb
    · show n % 128 - a + a = n % 128; omega
    · refine congrArg x (funext fun b => Fin.ext ?_)
      match b with
      | ⟨0, _⟩ => show 0 + r.val = r.val; omega
      | ⟨1, _⟩ => show 0 + (n % 128 - a) = (n + k) % 128; omega

/-- Whole turns add nothing. -/
theorem lane_mod (x : FVec Ideal S400x128 .f32) (r : Fin 400) (n : ℕ) (h : n < 128) : lane x r n = x (ix2 r ⟨n, h⟩) :=
  congrArg (fun l => x (ix2 r l)) (Fin.ext (Nat.mod_eq_of_lt h))

/-- The sixteen lanes eight apart, from lane `n` on. -/
def sixteen (x : FVec Ideal S400x128 .f32) (r : Fin 400) (n : ℕ) : EReal := ∑ g : Fin 16, lane x r (n + 8 * g.val)

/-- Eight sums of sixteen lanes are the sum of the row's 128. -/
theorem sum_sixteen (x : FVec Ideal S400x128 .f32) (r : Fin 400) :
    ∑ n : Fin 8, sixteen x r n.val = ∑ l : Fin 128, (x (ix2 r l) : EReal) := by
  unfold sixteen
  rw [Finset.sum_comm, ← Finset.sum_product']
  refine Fintype.sum_equiv (finProdFinEquiv (m := 16) (n := 8)) (fun p => lane x r (p.2.val + 8 * p.1.val)) (fun l : Fin 128 => (x (ix2 r l) : EReal)) fun p => ?_
  exact lane_mod x r _ (by omega)

/-- The block's absolute values. -/
theorem pay2_eq (x : FVec Ideal S400x128 .f32) : k0_pay2 x = absf x := by
  unfold k0_pay2
  rw [shapeCast_self]

set_option maxHeartbeats 4000000 in
/-- The first fourteen of the sixteen, as the body adds them. -/
theorem pay3_lane (x : FVec Ideal S400x128 .f32) (r : Fin 400) (n : ℕ) : lane (k0_pay3 x) r n =
    lane (absf x) r n + lane (absf x) r (n + 8) + lane (absf x) r (n + 16) + lane (absf x) r (n + 24) + lane (absf x) r (n + 32)
      + lane (absf x) r (n + 40) + lane (absf x) r (n + 48) + lane (absf x) r (n + 56) + lane (absf x) r (n + 64) + lane (absf x) r (n + 72)
      + lane (absf x) r (n + 80) + lane (absf x) r (n + 88) + lane (absf x) r (n + 96) + lane (absf x) r (n + 104) := by
  unfold k0_pay3
  rw [pay2_eq]
  dsimp only
  simp only [lane_addf]
  rw [lane_rotated (a := 120) (k := 8) rfl, lane_rotated (a := 112) (k := 16) rfl, lane_rotated (a := 104) (k := 24) rfl,
    lane_rotated (a := 96) (k := 32) rfl, lane_rotated (a := 88) (k := 40) rfl, lane_rotated (a := 80) (k := 48) rfl,
    lane_rotated (a := 72) (k := 56) rfl, lane_rotated (a := 64) (k := 64) rfl, lane_rotated (a := 56) (k := 72) rfl,
    lane_rotated (a := 48) (k := 80) rfl, lane_rotated (a := 40) (k := 88) rfl, lane_rotated (a := 32) (k := 96) rfl,
    lane_rotated (a := 24) (k := 104) rfl]

/-- The column kept in the end is lane 0. -/
theorem first_lane (x : FVec Ideal S400x128 .f32) (h : S400x128.Slices ![0, 0] S400x1) (r : Fin 400) (u : Fin 1) :
    extractStridedSlice S400x1 ![0, 0] x h (ix2 r u) = lane x r 0 := by
  refine congrArg x (funext fun b => Fin.ext ?_)
  match b with
  | ⟨0, _⟩ => show 0 + r.val = r.val; omega
  | ⟨1, _⟩ => show 0 + u.val = 0; omega

/-- The sixteen lanes eight apart, added from the first on. -/
theorem sixteen_eq (x : FVec Ideal S400x128 .f32) (r : Fin 400) (n : ℕ) : sixteen x r n =
    lane x r n + lane x r (n + 8) + lane x r (n + 16) + lane x r (n + 24) + lane x r (n + 32) + lane x r (n + 40) + lane x r (n + 48)
      + lane x r (n + 56) + lane x r (n + 64) + lane x r (n + 72) + lane x r (n + 80) + lane x r (n + 88) + lane x r (n + 96)
      + lane x r (n + 104) + lane x r (n + 112) + lane x r (n + 120) := by
  unfold sixteen
  simp only [Fin.sum_univ_castSucc, Fin.sum_univ_zero, zero_add]
  rfl

/-- Adding the block to itself rotated by 4, then 2, then 1 puts the eight lanes' sum in lane 0. -/
theorem eight_eq (f : ℕ → EReal) :
    f 0 + f (0 + 4) + (f (0 + 2) + f (0 + 2 + 4)) + (f (0 + 1) + f (0 + 1 + 4) + (f (0 + 1 + 2) + f (0 + 1 + 2 + 4))) = ∑ n : Fin 8, f n.val := by
  simp only [Fin.sum_univ_castSucc, Fin.sum_univ_zero, zero_add]
  show f 0 + f 4 + (f 2 + f 6) + (f 1 + f 5 + (f 3 + f 7)) = f 0 + f 1 + f 2 + f 3 + f 4 + f 5 + f 6 + f 7
  ac_rfl

set_option maxHeartbeats 4000000 in
/-- THE BLOCK: the body's result at row `r` is the sum of the row's absolute values. -/
theorem payload_at (x : FVec Ideal S400x128 .f32) (r : Fin 400) (u : Fin 1) :
    k0_pay1 (F := Ideal) (k0_pay2 x) (k0_pay3 x) (k0_pay4 x) (k0_pay5 x) (ix2 r u) = ∑ l : Fin 128, absf x (ix2 r l) := by
  refine Eq.trans ?_ (sum_sixteen (absf x) r)
  unfold k0_pay1 k0_pay4 k0_pay5
  rw [pay2_eq]
  dsimp only
  rw [first_lane]
  simp only [lane_addf]
  simp only [lane_rotated (a := 127) (k := 1) rfl, lane_addf]
  simp only [lane_rotated (a := 126) (k := 2) rfl, lane_addf]
  simp only [lane_rotated (a := 124) (k := 4) rfl, lane_addf]
  simp only [lane_rotated (a := 16) (k := 112) rfl, lane_rotated (a := 8) (k := 120) rfl, pay3_lane, ← sixteen_eq]
  exact eight_eq (sixteen (absf x) r)

end Cert.KernelIdeal.Block

end
-- ==== Proof.Region.lean ====
/- WHAT THE ARRAY HOLDS.  Each of the 250 points takes 400 rows of the table the body is launched on and writes their sums: after
   the last point the result array holds, at every row, the sum of the absolute values of the table's row. -/
module

public import proofs.«01_k».proof.Proof.BlockSum
public import proofs.«01_k».proof.Proof.Gen.KernelIdeal.Frame

@[expose] public section

set_option maxRecDepth 16384

noncomputable section

namespace Cert.KernelIdeal.Region

open Cert.KernelIdeal Cert.KernelIdeal.Gen Idealize.ShloMosaic Idealize.ShloMosaic.ValueIdx Idealize.ShloMosaic.TcCoe
open Idealize.SL.Sem
open Idealize.ShloMosaic.Pipeline (Dat)

variable (m : (ℓ : Loc nD τ sig) → Buf (Elt Ideal) ℓ)

/-- The sums of the rows' absolute values, as a column. -/
def rowSums (X : FVec Ideal S100000x128 .f32) : FVec Ideal S100000x1 .f32 := fun i =>
  ∑ l : Fin 128, absf X (ix2 (⟨(i 0).val, (i 0).isLt⟩ : Fin 100000) l)

/-- The table the region finds. -/
abbrev table (c : Dev nD) : FVec Ideal S100000x128 .f32 := V m c main_v126

theorem hz : (![0, 0] : Fin 2 → Nat) = fun _ => 0 := funext fun a => by fin_cases a <;> rfl

/-- Point `t`'s blocks are the `t`-th 400 rows, whole. -/
theorem blocks_at : ∀ t : Fin cfg0.N, (win0_0.index t 0 = t.val ∧ win0_0.index t 1 = 0)
    ∧ win0_1.index t 0 = t.val ∧ win0_1.index t 1 = 0
    ∧ win0_1.xsize (grid0.coords t) 0 = 400 ∧ win0_1.xsize (grid0.coords t) 1 = 1 := by decide +kernel

/-- The row sums of the `t`-th 400 rows of a table, read through the point's two blocks. -/
theorem rowSums_blk (X : FVec Ideal S100000x128 .f32) (t : Fin cfg0.N) (j : S400x1.Idx) :
    k0_pay1 (F := Ideal) (k0_pay2 ((win0_0.blk t).view.read (Elt Ideal) X)) (k0_pay3 ((win0_0.blk t).view.read (Elt Ideal) X))
      (k0_pay4 ((win0_0.blk t).view.read (Elt Ideal) X)) (k0_pay5 ((win0_0.blk t).view.read (Elt Ideal) X)) j
      = (win0_1.blk t).view.read (Elt Ideal) (rowSums X) j := by
  obtain ⟨⟨a0, a1⟩, b0, b1, -, -⟩ := blocks_at t
  obtain ⟨r, u, rfl⟩ : ∃ (r : Fin 400) (u : Fin 1), j = ix2 r u := ⟨j 0, j 1, eq_ix2 j⟩
  have ht : t.val < 250 := lt_of_lt_of_eq t.isLt N_0
  have e : (win0_1.blk t).view.read (Elt Ideal) (rowSums X) (ix2 r u)
      = ∑ l : Fin 128, absf X (ix2 (⟨t.val * 400 + r.val, by omega⟩ : Fin 100000) l) := by
    show rowSums X ((win0_1.blk t).view.emb (ix2 r u)) = _
    unfold rowSums
    refine Finset.sum_congr rfl fun l _ => congrArg (absf X) (funext fun b => Fin.ext ?_)
    match b with
    | ⟨0, _⟩ => show win0_1.index t 0 * 400 + 1 * r.val = t.val * 400 + r.val
                rw [b0]; omega
    | ⟨1, _⟩ => rfl
  rw [e]
  refine (Block.payload_at _ r u).trans (Finset.sum_congr rfl fun l _ => congrArg (absf X) (funext fun b => Fin.ext ?_))
  match b with
  | ⟨0, _⟩ => show win0_0.index t 0 * 400 + 1 * r.val = t.val * 400 + r.val
              rw [a0]; omega
  | ⟨1, _⟩ => show win0_0.index t 1 * 128 + 1 * l.val = l.val
              rw [a1]; omega

/-- WHAT POINT `t` WRITES: its 400 rows of the row sums. -/
theorem flushed_eq (c : Dev nD) (t : Fin cfg0.N) :
    (dats m 0 c).flushed 1 t = (win0_1.blk t).view.read (Elt Ideal) (rowSums (table m c)) := by
  show (cfg0.win 1).cut (grid0.coords t) ((dats m 0 c).after 1 t) = _
  rw [after0_1]
  unfold out0_1
  rw [View.canon_unit_zero hz, View.ld_unit_zero hz]
  exact funext fun j => rowSums_blk (table m c) t j

/-- An index of the result array is in point `t`'s block when its row is one of the `t`-th 400. -/
theorem mem_blk (t : Fin cfg0.N) (i : S100000x1.Idx) :
    i ∈ ((cfg0.win 1).blk t).view.set ↔ t.val * 400 ≤ (i 0 : Nat) ∧ (i 0 : Nat) < t.val * 400 + 400 := by
  show i ∈ ((View.whole main_v127).slice (win0_1.rect t)).set ↔ _
  rw [View.set_slice_whole, Rect.mem_set_unit]
  have h1 : (i 1 : Nat) < 1 := (i 1).isLt
  obtain ⟨-, e0, e1, s0, s1⟩ := blocks_at t
  refine ⟨fun h => ?_, fun h a => ?_⟩
  · have : win0_1.index t 0 * 400 ≤ (i 0 : Nat) ∧ (i 0 : Nat) < win0_1.index t 0 * 400 + win0_1.xsize (grid0.coords t) 0 := h 0
    rw [e0, s0] at this; exact this
  · match a with
    | ⟨0, _⟩ => show win0_1.index t 0 * 400 ≤ (i 0 : Nat) ∧ (i 0 : Nat) < win0_1.index t 0 * 400 + win0_1.xsize (grid0.coords t) 0
                rw [e0, s0]; exact h
    | ⟨1, _⟩ => show win0_1.index t 1 * 1 ≤ (i 1 : Nat) ∧ (i 1 : Nat) < win0_1.index t 1 * 1 + win0_1.xsize (grid0.coords t) 1
                rw [e1, s1]; omega

/-- The blocks cover the array. -/
theorem cover (i : S100000x1.Idx) :
    ∃ t : Fin cfg0.N, (cfg0.win 1).flush t = true ∧ i ∈ ((cfg0.win 1).blk t).view.set := by
  have h0 : (i 0 : Nat) < 100000 := (i 0).isLt
  have hN : cfg0.N = 250 := N_0
  have ht : (i 0 : Nat) / 400 < cfg0.N := by omega
  refine ⟨⟨(i 0 : Nat) / 400, ht⟩, flush0_1 _, ?_⟩
  rw [mem_blk]
  dsimp only
  omega

/-- THE ARRAY: after the last point it holds the row sums of the table. -/
theorem final (c : Dev nD) : (dats m 0 c).arrAt 1 cfg0.N = rowSums (table m c) :=
  (dats m 0 c).arrAt_eq_of_cover 1 (rowSums (table m c)) (fun t _ => flushed_eq m c t) cover

end Cert.KernelIdeal.Region

end
-- ==== Proof.Lookup.lean ====
/- THE REFERENCE'S INTERMEDIATE ARRAYS THAT HAVE NO NAME OF THEIR OWN.  The reference's run (Gen/ReferenceIdeal/Run.lean) names an
   intermediate array when two later operations read it; the equation with the kernel also speaks of some that one operation
   reads: the looked-up rows of the tail entities and of the negative entities, the margin of the positive triples, and the
   slopes of the two log-sigmoids. They are named here, and the named arrays are restated over them. -/
module

public import proofs.«01_k».proof.Proof.Gen.ReferenceIdeal.Run

@[expose] public section

set_option maxRecDepth 16384

noncomputable section

namespace Cert.ReferenceIdeal.Lookup

open Cert.ReferenceIdeal Cert.ReferenceIdeal.Gen Cert.ReferenceIdeal.Value Idealize.ShloMosaic Idealize.ShloMosaic.TcCoe
open Idealize.SL.Sem Idealize.ShloMosaic.StableHlo

variable {F : FTy → Type} [FloatOps F]

/-- The entity-table rows of the tail indices: row `tail[b]` (from the end when negative) where it lies in the table, the not-a-number
    word where it does not. -/
def tailRows (A : Valuation τ sig (Elt F)) : FVec F S16384x128 .f32 :=
  select (broadcastInDim S16384x128 ![0] bcast_S16384_S16384x128_0 (Host.reduce IntOp.andi (andi (cmpi .sge (res_main_v2_1 A) (broadcastInDim S16384x1 ![] bcast_S_S16384x1 (constantI S_ 32 0#32)))
    (cmpi .sle (res_main_v2_1 A) (broadcastInDim S16384x1 ![0, 1] bcast_S1x1_S16384x1_0_1 (broadcastInDim S1x1 ![1] bcast_S1_S1x1_1 (constantI S1 32 99999#32))))) (constantI S_ 1 1#1) reducesTo_S16384x1_S16384_d1 h_S_))
    (Host.gather gather_S100000x128_S16384x1_S16384x128_1_0_n_n_0_1_1128 (A (Proc.devRef .tc main_arg4)) (res_main_v2_1 A))
    (broadcastInDim S16384x128 ![] bcast_S_S16384x128 (constant S_ .f32 0x7FC00000#32))

/-- The difference `head + relation − tail` over the named rows. -/
theorem v4_eq (A : Valuation τ sig (Elt F)) : res_main_v4 A = subf (addf (res_main_v0_0 A) (res_main_v1 A)) (tailRows A) := rfl

/-- The entity-table rows of the negative indices, fifty to a triple, by the same rule. -/
def negRows (A : Valuation τ sig (Elt F)) : FVec F S16384x50x128 .f32 :=
  select (broadcastInDim S16384x50x128 ![0, 1] bcast_S16384x50_S16384x50x128_0_1 (Host.reduce IntOp.andi (andi (cmpi .sge (res_main_v11_1 A) (broadcastInDim S16384x50x1 ![] bcast_S_S16384x50x1 (constantI S_ 32 0#32)))
    (cmpi .sle (res_main_v11_1 A) (broadcastInDim S16384x50x1 ![0, 1, 2] bcast_S1x1x1_S16384x50x1_0_1_2 (broadcastInDim S1x1x1 ![2] bcast_S1_S1x1x1_2 (constantI S1 32 99999#32))))) (constantI S_ 1 1#1) reducesTo_S16384x50x1_S16384x50_d2 h_S_))
    (Host.gather gather_S100000x128_S16384x50x1_S16384x50x128_2_0_n_n_0_2_1128 (A (Proc.devRef .tc main_arg4)) (res_main_v11_1 A))
    (broadcastInDim S16384x50x128 ![] bcast_S_S16384x50x128 (constant S_ .f32 0x7FC00000#32))

/-- The difference `head + relation − negative` over the named rows. -/
theorem v15_eq (A : Valuation τ sig (Elt F)) : res_main_v15 A =
    subf (broadcastInDim S16384x50x128 ![0, 1, 2] bcast_S16384x1x128_S16384x50x128_0_1_2 (broadcastInDim S16384x1x128 ![0, 2] bcast_S16384x128_S16384x1x128_0_2 (addf (res_main_v0_0 A) (res_main_v1 A)))) (negRows A) := rfl

/-- The positive triples' score: the margin less the absolute sum of the difference. -/
def posScore (A : Valuation τ sig (Elt F)) : FVec F S16384 .f32 :=
  subf (broadcastInDim S16384 ![] bcast_S_S16384 (constant S_ .f32 0x41400000#32)) (Host.reduceAdd (Host.absf (res_main_v4 A)) (constant S_ .f32 0x00000000#32) reducesTo_S16384x128_S16384_d1 h_S_)

/-- The log-sigmoid's slope at the negative triples, as its derivative rule computes it. -/
def negSlope (A : Valuation τ sig (Elt F)) : FVec F S16384x50 .f32 :=
  Host.exp (subf (select (cmpf .oeq (res_main_call4_v0 A) (broadcastInDim S16384x50 ![] bcast_S_S16384x50 (constant S_ .f32 0x7F800000#32))) (broadcastInDim S16384x50 ![] bcast_S_S16384x50 (constant S_ .f32 0x00000000#32)) (res_main_call4_v0 A))
    (select (cmpf .oeq (res_main_call4_v1_0 A) (broadcastInDim S16384x50 ![] bcast_S_S16384x50 (constant S_ .f32 0x7F800000#32))) (broadcastInDim S16384x50 ![] bcast_S_S16384x50 (constant S_ .f32 0x00000000#32)) (res_main_call4_v1_0 A)))

/-- The log-sigmoid's slope at the positive triples. -/
def posSlope (A : Valuation τ sig (Elt F)) : FVec F S16384 .f32 :=
  Host.exp (subf (select (cmpf .oeq (res_main_call5_v0 A) (broadcastInDim S16384 ![] bcast_S_S16384 (constant S_ .f32 0x7F800000#32))) (broadcastInDim S16384 ![] bcast_S_S16384 (constant S_ .f32 0x00000000#32)) (res_main_call5_v0 A))
    (select (cmpf .oeq (res_main_call5_v1_0 A) (broadcastInDim S16384 ![] bcast_S_S16384 (constant S_ .f32 0x7F800000#32))) (broadcastInDim S16384 ![] bcast_S_S16384 (constant S_ .f32 0x00000000#32)) (res_main_call5_v1_0 A)))

/-- What the loss's gradient adds to the rows of the head entities. -/
def headStep (A : Valuation τ sig (Elt F)) : FVec F S16384x128 .f32 :=
  addf (Host.reduceAdd (shapeCast _ (Host.reduceAdd (res_main_v83 A) (constant S_ .f32 0x00000000#32) reducesTo_S16384x50x128_S16384x128_d1 h_S_) shapeCasts_S16384x128_S16384x1x128) (constant S_ .f32 0x00000000#32) reducesTo_S16384x1x128_S16384x128_d1 h_S_) (res_main_v95 A)

/-- The gradient table before anything is added to it. -/
def noGrad : FVec F S100000x128 .f32 := broadcastInDim S100000x128 ![] bcast_S_S100000x128 (constant S_ .f32 0x00000000#32)

/-- The reference's gradient with respect to the entity table: what the negatives, the tails and the heads add to it, each scattered
    into a table of zeros, and the three tables added. -/
def grad (A : Valuation τ sig (Elt F)) : FVec F S100000x128 .f32 :=
  addf (addf (Host.scatterAdd scatter_S100000x128_S16384x50x1_S16384x50x128_2_0_0_2 noGrad (res_main_v11_1 A) (Host.negf (res_main_v83 A)))
      (Host.scatterAdd scatter_S100000x128_S16384x1_S16384x128_1_0_0_1 noGrad (res_main_v2_1 A) (Host.negf (res_main_v95 A))))
    (Host.scatterAdd scatter_S100000x128_S16384x1_S16384x128_1_0_0_1 noGrad (res_main_v0_1 A) (headStep A))

/-- The reference's row sums: the absolute sum of each row of the gradient. -/
theorem v103_eq (A : Valuation τ sig (Elt F)) : res_main_v103 A =
    Host.reduceAdd (Host.absf (grad A)) (constant S_ .f32 0x00000000#32) reducesTo_S100000x128_S100000_d1 h_S_ := rfl

end Cert.ReferenceIdeal.Lookup

end
-- ==== Proof.Norms.lean ====
/- THE EQUATION OF THE SUMS.  The column of row sums that the region leaves, read as a vector, is the reference's sum of absolute
   values over the table's second axis. -/
module

public import proofs.«01_k».proof.Proof.Region
public import proofs.«01_k».proof.Proof.Lookup
public import Idealize.ShloMosaic.Lib.IdealHost

@[expose] public section

set_option maxRecDepth 16384

noncomputable section

namespace Cert.KernelIdeal.Region

open Cert.KernelIdeal Cert.KernelIdeal.Gen Idealize.ShloMosaic Idealize.ShloMosaic.ValueIdx Idealize.ShloMosaic.TcCoe

/-- The axis the reference sums over, dropped from the table's shape. -/
theorem drops_lanes : S100000x128.Reduces [1] S100000 := by decide

/-- The reference's sum at a row is the sum over the row's lanes. -/
theorem reduce_at (X : FVec Ideal S100000x128 .f32) (r : Fin 100000) :
    Host.reduceAdd (F := Ideal) (Host.absf X) (constant Cert.ReferenceIdeal.S_ .f32 0) Cert.ReferenceIdeal.Gen.reducesTo_S100000x128_S100000_d1
      Cert.ReferenceIdeal.Gen.h_S_ (ix1 r) = ∑ l : Fin 128, absf X (ix2 r l) := by
  rw [hostReduceAdd_apply, Ideal.hostReduceAdd_single _ drops_lanes]
  refine (congrArg (· + _) (Ideal.ofBits_zero_f32)).trans ((zero_add _).trans (Finset.sum_congr rfl fun l _ => ?_))
  refine congrArg (absf X) (funext fun b => Fin.ext ?_)
  match b with
  | ⟨0, _⟩ => rfl
  | ⟨1, _⟩ => rfl

/-- THE SUMS: the column read as a vector is the reference's. -/
theorem column_eq (X : FVec Ideal S100000x128 .f32) :
    shapeCast S100000 (rowSums X) shapeCasts_S100000x1_S100000
      = Host.reduceAdd (F := Ideal) (Host.absf X) (constant Cert.ReferenceIdeal.S_ .f32 0) Cert.ReferenceIdeal.Gen.reducesTo_S100000x128_S100000_d1
          Cert.ReferenceIdeal.Gen.h_S_ := by
  funext i
  obtain ⟨r, rfl⟩ : ∃ r : Fin 100000, i = ix1 r := ⟨i 0, eq_ix1 i⟩
  refine (shapeCast_apply (rowSums X) shapeCasts_S100000x1_S100000 (ix1 r) (ix2 r (0 : Fin 1)) ?_).trans (reduce_at X r).symm
  rw [Shape.rowMajor_val_two, Shape.rowMajor_val_one]
  show r.val * 1 + 0 = r.val
  omega

end Cert.KernelIdeal.Region

end
-- ==== Proof.Rows.lean ====
/- WHAT THE KERNEL'S HOST OPERATIONS LOOK UP.  The first 98 host operations of the kernel, read back: the head, tail and negative
   rows of the entity table, each with the zero array added to it, and the relation rows, are the reference's. -/
module

public import proofs.«01_k».proof.Proof.Lookup
public import proofs.«01_k».proof.Proof.Gen.KernelIdeal.Launch
public import Idealize.ShloMosaic.Lib.StableHlo.Run

@[expose] public section

set_option maxRecDepth 16384

noncomputable section

namespace Cert.KernelIdeal.Host

open Cert.KernelIdeal Cert.KernelIdeal.Gen Idealize.ShloMosaic Idealize.ShloMosaic.TcCoe
open Idealize.SL.Sem Idealize.ShloMosaic.StableHlo
open Cert.ReferenceIdeal.Value Cert.ReferenceIdeal.Lookup

variable {F : FTy → Type} [FloatOps F]

/-- The two programs' arguments are one another's: the kernel's buffers `W` and the reference's `A` hold the same six arrays. -/
structure Agree (W : Valuation τ sig (Elt F)) (A : Valuation Cert.ReferenceIdeal.τ Cert.ReferenceIdeal.sig (Elt F)) : Prop where
  arg0 : W (Proc.devRef .tc main_arg0) = A (Proc.devRef .tc Cert.ReferenceIdeal.main_arg0)
  arg1 : W (Proc.devRef .tc main_arg1) = A (Proc.devRef .tc Cert.ReferenceIdeal.main_arg1)
  arg2 : W (Proc.devRef .tc main_arg2) = A (Proc.devRef .tc Cert.ReferenceIdeal.main_arg2)
  arg3 : W (Proc.devRef .tc main_arg3) = A (Proc.devRef .tc Cert.ReferenceIdeal.main_arg3)
  arg4 : W (Proc.devRef .tc main_arg4) = A (Proc.devRef .tc Cert.ReferenceIdeal.main_arg4)
  arg5 : W (Proc.devRef .tc main_arg5) = A (Proc.devRef .tc Cert.ReferenceIdeal.main_arg5)

/-- The kernel's first host operations: the four look-ups and the three additions of a zero array. -/
abbrev lookups : List (HloOp τ sig (Elt F)) :=
  List.flatten [hostOps0, hostOps0_1, hostOps0_2, hostOps0_3, hostOps0_4, hostOps0_5, hostOps0_6, hostOps0_7]

section

variable (W : Valuation τ sig (Elt F)) (A : Valuation Cert.ReferenceIdeal.τ Cert.ReferenceIdeal.sig (Elt F)) (h : Agree W A)
include h

set_option maxHeartbeats 4000000 in
/-- The head rows, the zero array added, are the reference's head rows with the zero array added. -/
theorem lookups_v4 : after lookups W (Proc.devRef .tc main_v4) =
    addf (res_main_v0_0 A) (broadcastInDim S16384x128 ![] bcast_S_S16384x128 (constant S_ .f32 0x00000000#32)) := by
  simp only [lookups, hostOps0, hostOps0_1, hostOps0_2, hostOps0_3, hostOps0_4, hostOps0_5, hostOps0_6, hostOps0_7, List.flatten_cons, List.flatten_nil,
    List.append_nil, List.cons_append, List.nil_append, TRef.binary, TRef.nullary, TRef.ternary, TRef.unary, TRef.toBuf, TRef.ofBuf, cast_eq]
  after_results_simp
  simp only [h.arg0, h.arg4] <;> rfl

set_option maxHeartbeats 4000000 in
/-- The tail rows, the zero array added. -/
theorem lookups_v6 : after lookups W (Proc.devRef .tc main_v6) =
    addf (tailRows A) (broadcastInDim S16384x128 ![] bcast_S_S16384x128 (constant S_ .f32 0x00000000#32)) := by
  simp only [lookups, hostOps0, hostOps0_1, hostOps0_2, hostOps0_3, hostOps0_4, hostOps0_5, hostOps0_6, hostOps0_7, List.flatten_cons, List.flatten_nil,
    List.append_nil, List.cons_append, List.nil_append, TRef.binary, TRef.nullary, TRef.ternary, TRef.unary, TRef.toBuf, TRef.ofBuf, cast_eq]
  after_results_simp
  simp only [h.arg2, h.arg4] <;> rfl

set_option maxHeartbeats 4000000 in
/-- The negative rows, the zero array added. -/
theorem lookups_v8 : after lookups W (Proc.devRef .tc main_v8) =
    addf (negRows A) (broadcastInDim S16384x50x128 ![] bcast_S_S16384x50x128 (constant S_ .f32 0x00000000#32)) := by
  simp only [lookups, hostOps0, hostOps0_1, hostOps0_2, hostOps0_3, hostOps0_4, hostOps0_5, hostOps0_6, hostOps0_7, List.flatten_cons, List.flatten_nil,
    List.append_nil, List.cons_append, List.nil_append, TRef.binary, TRef.nullary, TRef.ternary, TRef.unary, TRef.toBuf, TRef.ofBuf, cast_eq]
  after_results_simp
  simp only [h.arg3, h.arg4] <;> rfl

set_option maxHeartbeats 4000000 in
/-- The relation rows. -/
theorem lookups_v9 : after lookups W (Proc.devRef .tc main_v9) =
    res_main_v1 A := by
  simp only [lookups, hostOps0, hostOps0_1, hostOps0_2, hostOps0_3, hostOps0_4, hostOps0_5, hostOps0_6, hostOps0_7, List.flatten_cons, List.flatten_nil,
    List.append_nil, List.cons_append, List.nil_append, TRef.binary, TRef.nullary, TRef.ternary, TRef.unary, TRef.toBuf, TRef.ofBuf, cast_eq]
  after_results_simp
  simp only [h.arg1, h.arg5] <;> rfl

end

end Cert.KernelIdeal.Host

end
-- ==== Proof.Scores.lean ====
/- THE KERNEL'S SCORES.  The host operations between the look-ups and the log-sigmoids, read back from any contents that hold the
   reference's rows: the signs of the two differences, the positive score, the softmax weights and the negated negative score are the
   reference's. -/
module

public import proofs.«01_k».proof.Proof.Rows

@[expose] public section

set_option maxRecDepth 16384

noncomputable section

namespace Cert.KernelIdeal.Host

open Cert.KernelIdeal Cert.KernelIdeal.Gen Idealize.ShloMosaic Idealize.ShloMosaic.TcCoe
open Idealize.SL.Sem Idealize.ShloMosaic.StableHlo
open Cert.ReferenceIdeal.Value Cert.ReferenceIdeal.Lookup

variable {F : FTy → Type} [FloatOps F]
variable (W : Valuation τ sig (Elt F)) (A : Valuation Cert.ReferenceIdeal.τ Cert.ReferenceIdeal.sig (Elt F))

section

variable (h4 : W (Proc.devRef .tc main_v4) = res_main_v0_0 A) (h6 : W (Proc.devRef .tc main_v6) = tailRows A) (h8 : W (Proc.devRef .tc main_v8) = negRows A) (h9 : W (Proc.devRef .tc main_v9) = res_main_v1 A)

include h4 h6 h9 in
set_option maxHeartbeats 4000000 in
/-- The positive difference's sign mask. -/
theorem scores_v14 : after hostOps0_8 W (Proc.devRef .tc main_v14) = res_main_v7 A := by
  simp only [hostOps0_8, TRef.binary, TRef.nullary, TRef.ternary, TRef.unary, TRef.toBuf, TRef.ofBuf, cast_eq]
  after_results_simp
  simp only [h4, h6, h9] <;> rfl

include h4 h6 h9 in
set_option maxHeartbeats 4000000 in
/-- The positive score. -/
theorem scores_v17 : after hostOps0_8 W (Proc.devRef .tc main_v17) = posScore A := by
  simp only [hostOps0_8, TRef.binary, TRef.nullary, TRef.ternary, TRef.unary, TRef.toBuf, TRef.ofBuf, cast_eq]
  after_results_simp
  simp only [h4, h6, h9] <;> rfl

include h4 h8 h9 in
set_option maxHeartbeats 4000000 in
/-- The negative difference's sign mask. -/
theorem scores_v24 : after hostOps0_8 W (Proc.devRef .tc main_v24) = res_main_v18 A := by
  simp only [hostOps0_8, TRef.binary, TRef.nullary, TRef.ternary, TRef.unary, TRef.toBuf, TRef.ofBuf, cast_eq]
  after_results_simp
  simp only [h4, h8, h9] <;> rfl

include h4 h8 h9 in
set_option maxHeartbeats 4000000 in
/-- The softmax weights of the negatives. -/
theorem scores_v54 : after hostOps0_8 W (Proc.devRef .tc main_v54) = res_main_v48 A := by
  simp only [hostOps0_8, TRef.binary, TRef.nullary, TRef.ternary, TRef.unary, TRef.toBuf, TRef.ofBuf, cast_eq]
  after_results_simp
  simp only [h4, h8, h9] <;> rfl

include h4 h8 h9 in
set_option maxHeartbeats 4000000 in
/-- The negative score, negated. -/
theorem scores_v58 : after hostOps0_8 W (Proc.devRef .tc main_v58) = Host.negf (res_main_v21 A) := by
  simp only [hostOps0_8, TRef.binary, TRef.nullary, TRef.ternary, TRef.unary, TRef.toBuf, TRef.ofBuf, cast_eq]
  after_results_simp
  simp only [h4, h8, h9] <;> rfl

end

end Cert.KernelIdeal.Host

end
-- ==== Proof.Slopes.lean ====
/- THE KERNEL'S LOG-SIGMOIDS.  The host operations of the two log-sigmoids, read back from any contents that hold the reference's
   scores: the two slopes are the reference's. -/
module

public import proofs.«01_k».proof.Proof.Rows

@[expose] public section

set_option maxRecDepth 16384

noncomputable section

namespace Cert.KernelIdeal.Host

open Cert.KernelIdeal Cert.KernelIdeal.Gen Idealize.ShloMosaic Idealize.ShloMosaic.TcCoe
open Idealize.SL.Sem Idealize.ShloMosaic.StableHlo
open Cert.ReferenceIdeal.Value Cert.ReferenceIdeal.Lookup

variable {F : FTy → Type} [FloatOps F]
variable (W : Valuation τ sig (Elt F)) (A : Valuation Cert.ReferenceIdeal.τ Cert.ReferenceIdeal.sig (Elt F))

/-- The host operations of the two log-sigmoids and the weighted sum between them. -/
abbrev sigmoids : List (HloOp τ sig (Elt F)) := List.flatten [hostOps0_9, hostOps0_10, hostOps0_11]

section

variable (h17 : W (Proc.devRef .tc main_v17) = posScore A) (h58 : W (Proc.devRef .tc main_v58) = Host.negf (res_main_v21 A))

include h58 in
set_option maxHeartbeats 4000000 in
/-- The negatives' slope. -/
theorem sigmoids_v59_1 : after sigmoids W (Proc.devRef .tc main_v59_1) = negSlope A := by
  simp only [sigmoids, hostOps0_9, hostOps0_10, hostOps0_11, List.flatten_cons, List.flatten_nil, List.append_nil, List.cons_append, List.nil_append, TRef.binary, TRef.nullary, TRef.ternary, TRef.unary, TRef.toBuf, TRef.ofBuf, cast_eq]
  after_results_simp
  simp only [h58] <;> rfl

include h17 in
set_option maxHeartbeats 4000000 in
/-- The positives' slope. -/
theorem sigmoids_v62_1 : after sigmoids W (Proc.devRef .tc main_v62_1) = posSlope A := by
  simp only [sigmoids, hostOps0_9, hostOps0_10, hostOps0_11, List.flatten_cons, List.flatten_nil, List.append_nil, List.cons_append, List.nil_append, TRef.binary, TRef.nullary, TRef.ternary, TRef.unary, TRef.toBuf, TRef.ofBuf, cast_eq]
  after_results_simp
  simp only [h17] <;> rfl

end

end Cert.KernelIdeal.Host

end
-- ==== Proof.Steps.lean ====
/- THE KERNEL'S GRADIENT.  The last host operations before the kernel's region, read back from any contents that hold the
   reference's sign masks, weights and slopes: the table the region reads is the head, tail and negative steps of the reference
   scattered one after another into one table of zeros, the negatives flattened to one list first. -/
module

public import proofs.«01_k».proof.Proof.Rows

@[expose] public section

set_option maxRecDepth 16384

noncomputable section

namespace Cert.KernelIdeal.Host

open Cert.KernelIdeal Cert.KernelIdeal.Gen Idealize.ShloMosaic Idealize.ShloMosaic.TcCoe
open Idealize.SL.Sem Idealize.ShloMosaic.StableHlo
open Cert.ReferenceIdeal.Value Cert.ReferenceIdeal.Lookup

variable {F : FTy → Type} [FloatOps F]
variable (W : Valuation τ sig (Elt F)) (A : Valuation Cert.ReferenceIdeal.τ Cert.ReferenceIdeal.sig (Elt F))

/-- The host operations from the loss's last scalars to the gradient table. -/
abbrev scatters : List (HloOp τ sig (Elt F)) := List.flatten [hostOps0_12, hostOps0_13, hostOps0_14, hostOps0_15, hostOps0_16]

/-- The negative indices as one list, each counted from the table's end when negative, as a column. -/
def flatIdx (x : IVec S16384x50 32) : IVec S819200x1 32 :=
  broadcastInDim S819200x1 ![0] bcast_S819200_S819200x1_0
    (select (cmpi .slt (shapeCast S819200 x shapeCasts_S16384x50_S819200) (broadcastInDim S819200 ![] bcast_S_S819200 (constantI S_ 32 0#32)))
      (addi (shapeCast S819200 x shapeCasts_S16384x50_S819200) (broadcastInDim S819200 ![] bcast_S_S819200 (constantI S_ 32 100000#32)))
      (shapeCast S819200 x shapeCasts_S16384x50_S819200))

/-- The kernel's gradient over the reference's steps: one table of zeros, the heads' steps scattered into it, then the tails', then the
    flattened negatives'. -/
def chain : FVec F S100000x128 .f32 :=
  Host.scatterAdd scatter_S100000x128_S819200x1_S819200x128_1_0_0_1
    (Host.scatterAdd scatter_S100000x128_S16384x1_S16384x128_1_0_0_1
      (Host.scatterAdd scatter_S100000x128_S16384x1_S16384x128_1_0_0_1 noGrad (res_main_v0_1 A) (headStep A))
      (res_main_v2_1 A) (Host.negf (res_main_v95 A)))
    (flatIdx (A (Proc.devRef .tc Cert.ReferenceIdeal.main_arg3)))
    (shapeCast S819200x128 (Host.negf (res_main_v83 A)) shapeCasts_S16384x50x128_S819200x128)

section

variable (h0 : W (Proc.devRef .tc main_arg0) = A (Proc.devRef .tc Cert.ReferenceIdeal.main_arg0)) (h2 : W (Proc.devRef .tc main_arg2) = A (Proc.devRef .tc Cert.ReferenceIdeal.main_arg2)) (h3 : W (Proc.devRef .tc main_arg3) = A (Proc.devRef .tc Cert.ReferenceIdeal.main_arg3)) (h14 : W (Proc.devRef .tc main_v14) = res_main_v7 A) (h24 : W (Proc.devRef .tc main_v24) = res_main_v18 A) (h54 : W (Proc.devRef .tc main_v54) = res_main_v48 A) (h59 : W (Proc.devRef .tc main_v59_1) = negSlope A) (h62 : W (Proc.devRef .tc main_v62_1) = posSlope A)

include h0 h2 h3 h14 h24 h54 h59 h62 in
set_option maxHeartbeats 4000000 in
/-- The table the region reads. -/
theorem scatters_v126 : after scatters W (Proc.devRef .tc main_v126) = chain A := by
  simp only [scatters, hostOps0_12, hostOps0_13, hostOps0_14, hostOps0_15, hostOps0_16, List.flatten_cons, List.flatten_nil, List.append_nil, List.cons_append, List.nil_append, TRef.binary, TRef.nullary, TRef.ternary, TRef.unary, TRef.toBuf, TRef.ofBuf, cast_eq]
  after_results_simp
  simp only [h0, h2, h3, h14, h24, h54, h59, h62] <;> rfl

end

end Cert.KernelIdeal.Host

end
-- ==== Proof.Scatter.lean ====
/- THE THREE SCATTERS.  The kernel scatters the heads', the tails' and the flattened negatives' steps one after another into one
   table of zeros; the reference scatters each into a table of its own and adds the three. On the extended reals the two tables are
   equal: an element of either is the sum of all the updates that land on it, and flattening the fifty negatives of each triple into
   one list moves no update to another row. -/
module

public import proofs.«01_k».proof.Proof.Steps
public import Idealize.ShloMosaic.PureOps.Ideal.Laws
public import Idealize.ShloMosaic.Lib.Routing.OpsPair
public import Idealize.ShloMosaic.Lib.Pipeline.Value

@[expose] public section

set_option maxRecDepth 16384

noncomputable section

namespace Cert.KernelIdeal.Host

open Cert.KernelIdeal Cert.KernelIdeal.Gen Idealize.ShloMosaic Idealize.ShloMosaic.TcCoe Idealize.ShloMosaic.ValueIdx
open Idealize.SL.Sem Idealize.ShloMosaic.StableHlo
open Cert.ReferenceIdeal.Value Cert.ReferenceIdeal.Lookup

/-- The kernel's scatter of the flattened negatives: an update's row starts at its index word, read signed. -/
theorem flat_start (k : S819200x128.Idx) (idx : IVec S819200x1 32) :
    scatter_S100000x128_S819200x1_S819200x128_1_0_0_1.start k idx 0 = (idx (ix2 (k 0) (0 : Fin 1))).toInt := by
  unfold ScatterDims.start
  rw [dif_pos (by decide)]
  refine congrArg (fun i => (idx i).toInt) (funext fun b => ?_)
  match b with
  | ⟨0, _⟩ => rfl
  | ⟨1, _⟩ => rfl

/-- The reference's scatter of the negatives: likewise, its word the one of its triple and position. -/
theorem neg_start (j : S16384x50x128.Idx) (idx : IVec S16384x50x1 32) :
    Cert.ReferenceIdeal.scatter_S100000x128_S16384x50x1_S16384x50x128_2_0_0_2.start j idx 0 = (idx (ix3 (j 0) (j 1) (0 : Fin 1))).toInt := by
  unfold ScatterDims.start
  rw [dif_pos (by decide)]
  refine congrArg (fun i => (idx i).toInt) (funext fun b => ?_)
  match b with
  | ⟨0, _⟩ => rfl
  | ⟨1, _⟩ => rfl
  | ⟨2, _⟩ => rfl

/-- Where the flattened negatives land: on the row of the index word, in the update's own lane. -/
theorem flat_lands (k : S819200x128.Idx) (idx : IVec S819200x1 32) (i : S100000x128.Idx) :
    scatter_S100000x128_S819200x1_S819200x128_1_0_0_1.resultIdx? k idx = some i
      ↔ (idx (ix2 (k 0) (0 : Fin 1))).toInt = ((i 0).val : Int) ∧ (k 1).val = (i 1).val := by
  rw [Routing.resultIdx?_eq_some]
  refine (Fin.forall_fin_two (p := fun a : Fin 2 => _)).trans (and_congr ?_ ?_)
  · rw [flat_start]
    show _ + ((0 : ℕ) : Int) = _ ↔ _
    rw [Nat.cast_zero, Int.add_zero]
  · show (0 : Int) + (((k 1).val : ℕ) : Int) = _ ↔ _
    rw [Int.zero_add]; exact Int.ofNat_inj

/-- Where the reference's negatives land. -/
theorem neg_lands (j : S16384x50x128.Idx) (idx : IVec S16384x50x1 32) (i : S100000x128.Idx) :
    Cert.ReferenceIdeal.scatter_S100000x128_S16384x50x1_S16384x50x128_2_0_0_2.resultIdx? j idx = some i
      ↔ (idx (ix3 (j 0) (j 1) (0 : Fin 1))).toInt = ((i 0).val : Int) ∧ (j 2).val = (i 1).val := by
  rw [Routing.resultIdx?_eq_some]
  refine (Fin.forall_fin_two (p := fun a : Fin 2 => _)).trans (and_congr ?_ ?_)
  · rw [neg_start]
    show _ + ((0 : ℕ) : Int) = _ ↔ _
    rw [Nat.cast_zero, Int.add_zero]
  · show (0 : Int) + (((j 2).val : ℕ) : Int) = _ ↔ _
    rw [Int.zero_add]; exact Int.ofNat_inj

/-- The wrap of one index word: a negative one counts from the end of the hundred thousand rows. -/
def wrapped (x : BitVec 32) : BitVec 32 := Scalar.select (IntOp.cmpi .slt x 0#32) (IntOp.addi x 100000#32) x

/-- The reference's index column at a triple and a position. -/
theorem neg_word (x : IVec S16384x50 32) (A : Valuation Cert.ReferenceIdeal.τ Cert.ReferenceIdeal.sig (Elt Ideal))
    (hx : A (Proc.devRef .tc Cert.ReferenceIdeal.main_arg3) = x) (a : Fin 16384) (b : Fin 50) :
    res_main_v11_1 A (ix3 a b (0 : Fin 1)) = wrapped (x (ix2 a b)) := by
  subst hx
  unfold res_main_v11_1
  rw [broadcastInDim_apply (t := ⟨3, ![16384, 50, 1]⟩) _ _ _ _ (ix2 a b) (by intro q; fin_cases q <;> rfl)]
  rfl

/-- The flattened index column: the word of the triple and the position that flatten to its place. -/
theorem flat_word (x : IVec S16384x50 32) (k : Fin 819200) (a : Fin 16384) (b : Fin 50) (h : k.val = a.val * 50 + b.val) :
    flatIdx x (ix2 k (0 : Fin 1)) = wrapped (x (ix2 a b)) := by
  have e : shapeCast S819200 x shapeCasts_S16384x50_S819200 (ix1 k) = x (ix2 a b) :=
    shapeCast_apply _ _ _ _ (by
      rw [Shape.rowMajor_val_one, Shape.rowMajor_val_two]
      exact h.symm)
  unfold flatIdx
  rw [broadcastInDim_apply (t := ⟨2, ![819200, 1]⟩) _ _ _ _ (ix1 k) (by intro q; fin_cases q; rfl)]
  show wrapped (shapeCast S819200 x shapeCasts_S16384x50_S819200 (ix1 k)) = _
  rw [e]

/-- Flattening moves no negative update: the flattened one lands where the one it was lands. -/
theorem lands_alike (x : IVec S16384x50 32) (A : Valuation Cert.ReferenceIdeal.τ Cert.ReferenceIdeal.sig (Elt Ideal))
    (hx : A (Proc.devRef .tc Cert.ReferenceIdeal.main_arg3) = x) (k : S819200x128.Idx) (j : S16384x50x128.Idx)
    (hk : (S16384x50x128.rowMajor j).val = (S819200x128.rowMajor k).val) (i : S100000x128.Idx) :
    scatter_S100000x128_S819200x1_S819200x128_1_0_0_1.resultIdx? k (flatIdx x) = some i
      ↔ Cert.ReferenceIdeal.scatter_S100000x128_S16384x50x1_S16384x50x128_2_0_0_2.resultIdx? j (res_main_v11_1 A) = some i := by
  rw [Shape.rowMajor_val_three, Shape.rowMajor_val_two] at hk
  replace hk : ((j 0).val * 50 + (j 1).val) * 128 + (j 2).val = (k 0).val * 128 + (k 1).val := hk
  have h1 : (k 1).val < 128 := (k 1).isLt
  have h2 : (j 2).val < 128 := (j 2).isLt
  rw [flat_lands, neg_lands, flat_word x (k 0) (j 0) (j 1) (by omega)]
  exact and_congr (Eq.congr (congrArg BitVec.toInt (neg_word x A hx (j 0) (j 1)).symm) rfl) (by rw [show (k 1).val = (j 2).val by omega])

/-- What a scatter adds to the element `i`: the sum of the updates that land on it. -/
def landed {s si u : Shape} (d : ScatterDims s si u) (idx : IVec si 32) (upd : FVec Ideal u .f32) (i : s.Idx) : EReal :=
  ∑ k ∈ Finset.univ.filter (fun k => d.resultIdx? k idx = some i), upd k

/-- An accumulating scatter at an element: what was there and what lands there. -/
theorem scatterAdd_at {s si u : Shape} (d : ScatterDims s si u) (x : FVec Ideal s .f32) (idx : IVec si 32) (upd : FVec Ideal u .f32) (i : s.Idx) :
    (Host.scatterAdd d x idx upd i : EReal) = x i + landed d idx upd i := rfl

/-- The flattened scatter adds to each element what the reference's scatter of the negatives adds. -/
theorem flat_landed (x : IVec S16384x50 32) (A : Valuation Cert.ReferenceIdeal.τ Cert.ReferenceIdeal.sig (Elt Ideal))
    (hx : A (Proc.devRef .tc Cert.ReferenceIdeal.main_arg3) = x) (u : FVec Ideal S16384x50x128 .f32) (i : S100000x128.Idx) :
    landed scatter_S100000x128_S819200x1_S819200x128_1_0_0_1 (flatIdx x) (shapeCast S819200x128 u shapeCasts_S16384x50x128_S819200x128) i
      = landed Cert.ReferenceIdeal.scatter_S100000x128_S16384x50x1_S16384x50x128_2_0_0_2 (res_main_v11_1 A) u i := by
  refine Finset.sum_equiv (Shape.reshapeEquiv shapeCasts_S16384x50x128_S819200x128) (fun k => ?_) fun k _ => rfl
  rw [Finset.mem_filter, Finset.mem_filter]
  exact and_congr (by simp) (lands_alike x A hx k _ (Shape.rowMajor_reshapeEquiv _ k) i)

/-- A table of zeros is zero at every element. -/
theorem noGrad_at (i : S100000x128.Idx) : (noGrad (F := Ideal)) i = (0 : EReal) := by
  exact Ideal.ofBits_zero_f32

section

variable (A : Valuation Cert.ReferenceIdeal.τ Cert.ReferenceIdeal.sig (Elt Ideal)) (i : S100000x128.Idx)

/-- What the heads add to an element. -/
def headSum : EReal := landed Cert.ReferenceIdeal.scatter_S100000x128_S16384x1_S16384x128_1_0_0_1 (res_main_v0_1 A) (headStep A) i
/-- What the tails add to an element. -/
def tailSum : EReal := landed Cert.ReferenceIdeal.scatter_S100000x128_S16384x1_S16384x128_1_0_0_1 (res_main_v2_1 A) (Host.negf (res_main_v95 A)) i
/-- What the negatives add to an element. -/
def negSum : EReal := landed Cert.ReferenceIdeal.scatter_S100000x128_S16384x50x1_S16384x50x128_2_0_0_2 (res_main_v11_1 A) (Host.negf (res_main_v83 A)) i

/-- The kernel's table at an element: zero, then the heads' sum, the tails' and the negatives', in that order. -/
theorem chain_at : (chain A i : EReal) = headSum A i + tailSum A i + negSum A i := by
  have e : (chain A i : EReal) = noGrad (F := Ideal) i + headSum A i + tailSum A i
      + landed scatter_S100000x128_S819200x1_S819200x128_1_0_0_1 (flatIdx (A (Proc.devRef .tc Cert.ReferenceIdeal.main_arg3)))
          (shapeCast S819200x128 (Host.negf (res_main_v83 A)) shapeCasts_S16384x50x128_S819200x128) i := rfl
  rw [e, flat_landed _ A rfl, noGrad_at, zero_add]
  rfl

/-- The reference's table at an element: the negatives' sum, the tails' and the heads', each from its own zero. -/
theorem grad_at : (grad A i : EReal) = negSum A i + tailSum A i + headSum A i := by
  have e : (grad A i : EReal) = (noGrad (F := Ideal) i + negSum A i) + (noGrad (F := Ideal) i + tailSum A i) + (noGrad (F := Ideal) i + headSum A i) := rfl
  rw [e, noGrad_at, zero_add, zero_add, zero_add]

end

/-- THE GRADIENT: the kernel's table, scattered three times over, is the reference's. -/
theorem chain_eq (A : Valuation Cert.ReferenceIdeal.τ Cert.ReferenceIdeal.sig (Elt Ideal)) : chain A = grad A := by
  funext i
  refine (chain_at A i).trans (Eq.trans ?_ (grad_at A i).symm)
  rw [add_assoc, add_comm, add_comm (tailSum A i)]

end Cert.KernelIdeal.Host

end
-- ==== Proof.Prefix.lean ====
/- WHAT THE REGION FINDS.  The host operations before the kernel's region, stage after stage: from any contents that hold the
   reference's arguments, the table the region reads is the reference's gradient. -/
module

public import proofs.«01_k».proof.Proof.Scores
public import proofs.«01_k».proof.Proof.Slopes
public import proofs.«01_k».proof.Proof.Steps
public import proofs.«01_k».proof.Proof.Scatter

@[expose] public section

set_option maxRecDepth 16384

noncomputable section

namespace Cert.KernelIdeal.Host

open Cert.KernelIdeal Cert.KernelIdeal.Gen Idealize.ShloMosaic Idealize.ShloMosaic.TcCoe
open Idealize.SL.Sem Idealize.ShloMosaic.StableHlo
open Cert.ReferenceIdeal.Value Cert.ReferenceIdeal.Lookup

/-- Running one list of operations after another is running the two in turn. -/
theorem run_twice {Val : EltTy → Type} (l₁ l₂ : List (HloOp τ sig Val)) (W : Valuation τ sig Val) :
    after (l₁ ++ l₂) W = after l₂ (after l₁ W) := by
  induction l₁ generalizing W with
  | nil => rfl
  | cons op l ih => exact ih _

section Kept

variable {F : FTy → Type} [FloatOps F] (W : Valuation τ sig (Elt F))

/-- The look-ups write none of the three index arrays the scatters read. -/
theorem lookups_keep (b : Ref sig .tc) (hb : b = main_arg0 ∨ b = main_arg2 ∨ b = main_arg3) :
    after lookups W (Proc.devRef .tc b) = W (Proc.devRef .tc b) :=
  after_of_forall_not_mem _ _ (List.forall_iff_forall_mem.mp (by
    simp only [lookups, hostOps0, hostOps0_1, hostOps0_2, hostOps0_3, hostOps0_4, hostOps0_5, hostOps0_6, hostOps0_7, List.flatten_cons, List.flatten_nil,
      List.append_nil, List.cons_append, List.nil_append, List.Forall, nullary_writes, unary_writes, binary_writes, ternary_writes, reshape_writes, Finset.mem_singleton]
    repeat' apply And.intro
    all_goals exact devRef_ne_of_ne (by rcases hb with rfl | rfl | rfl <;> decide)))

/-- Nor do the scores. -/
theorem scores_keep (b : Ref sig .tc) (hb : b = main_arg0 ∨ b = main_arg2 ∨ b = main_arg3) :
    after hostOps0_8 W (Proc.devRef .tc b) = W (Proc.devRef .tc b) :=
  after_of_forall_not_mem _ _ (List.forall_iff_forall_mem.mp (by
    simp only [hostOps0_8, List.Forall, nullary_writes, unary_writes, binary_writes, ternary_writes, reshape_writes, Finset.mem_singleton]
    repeat' apply And.intro
    all_goals exact devRef_ne_of_ne (by rcases hb with rfl | rfl | rfl <;> decide)))

/-- Nor do the log-sigmoids, and they write neither sign mask nor the weights. -/
theorem sigmoids_keep (b : Ref sig .tc) (hb : b = main_arg0 ∨ b = main_arg2 ∨ b = main_arg3 ∨ b = main_v14 ∨ b = main_v24 ∨ b = main_v54) :
    after sigmoids W (Proc.devRef .tc b) = W (Proc.devRef .tc b) :=
  after_of_forall_not_mem _ _ (List.forall_iff_forall_mem.mp (by
    simp only [sigmoids, hostOps0_9, hostOps0_10, hostOps0_11, List.flatten_cons, List.flatten_nil,
      List.append_nil, List.cons_append, List.nil_append, List.Forall, nullary_writes, unary_writes, binary_writes, ternary_writes, reshape_writes, Finset.mem_singleton]
    repeat' apply And.intro
    all_goals exact devRef_ne_of_ne (by rcases hb with rfl | rfl | rfl | rfl | rfl | rfl <;> decide)))

end Kept

/-- Adding the zero array to an array of extended reals changes nothing. -/
theorem addf_zero {s : Shape} (h : S_.BroadcastsInDim s ![]) (x : FVec Ideal s .f32) :
    addf x (broadcastInDim s ![] h (constant S_ .f32 0x00000000#32)) = x := by
  funext i
  show (x i : EReal) + Ideal.ofBits .f32 0x00000000#32 = x i
  rw [Ideal.ofBits_zero_f32, add_zero]

/-- All the host operations before the region. -/
abbrev before : List (HloOp τ sig (Elt Ideal)) :=
  List.flatten [hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16]

/-- They are the look-ups, the scores, the log-sigmoids and the scatters. -/
theorem before_eq (W : Valuation τ sig (Elt Ideal)) :
    after before W = after scatters (after sigmoids (after hostOps0_8 (after lookups W))) := by
  rw [← run_twice, ← run_twice, ← run_twice]
  refine congrArg (fun l => after l W) ?_
  simp only [before, scatters, sigmoids, lookups, List.flatten_cons, List.flatten_nil, List.append_nil, List.append_assoc]

/-- THE TABLE THE REGION READS is the reference's gradient at the reference's arguments. -/
theorem table_eq (W : Valuation τ sig (Elt Ideal)) (A : Valuation Cert.ReferenceIdeal.τ Cert.ReferenceIdeal.sig (Elt Ideal)) (h : Agree W A) :
    after before W (Proc.devRef .tc main_v126) = grad A := by
  have h4 := (lookups_v4 W A h).trans (addf_zero _ _)
  have h6 := (lookups_v6 W A h).trans (addf_zero _ _)
  have h8 := (lookups_v8 W A h).trans (addf_zero _ _)
  have h9 := lookups_v9 W A h
  have h58 := scores_v58 _ A h4 h8 h9
  have h17 := scores_v17 _ A h4 h6 h9
  rw [before_eq, ← chain_eq]
  refine scatters_v126 _ A ?_ ?_ ?_ ?_ ?_ ?_ (sigmoids_v59_1 _ A h58) (sigmoids_v62_1 _ A h17)
  · exact ((sigmoids_keep _ _ (by simp)).trans ((scores_keep _ _ (by simp)).trans (lookups_keep _ _ (by simp)))).trans h.arg0
  · exact ((sigmoids_keep _ _ (by simp)).trans ((scores_keep _ _ (by simp)).trans (lookups_keep _ _ (by simp)))).trans h.arg2
  · exact ((sigmoids_keep _ _ (by simp)).trans ((scores_keep _ _ (by simp)).trans (lookups_keep _ _ (by simp)))).trans h.arg3
  · exact (sigmoids_keep _ _ (by simp)).trans (scores_v14 _ A h4 h6 h9)
  · exact (sigmoids_keep _ _ (by simp)).trans (scores_v24 _ A h4 h8 h9)
  · exact (sigmoids_keep _ _ (by simp)).trans (scores_v54 _ A h4 h8 h9)

end Cert.KernelIdeal.Host

end
-- ==== Proof.Outcome.lean ====
/- WHAT THE KERNEL RETURNS.  The host operations after the region read its column as a vector and sort it; so, on the reference's
   arguments, the kernel's three results are the reference's row sums of absolute values, their sorted values and the sorting
   indices. -/
module

public import proofs.«01_k».proof.Proof.Norms
public import proofs.«01_k».proof.Proof.Prefix
public import proofs.«01_k».proof.Proof.Gen.ReferenceIdeal.Run

@[expose] public section

set_option maxRecDepth 16384

noncomputable section

namespace Cert.KernelIdeal.Outcome

open Cert.KernelIdeal Cert.KernelIdeal.Gen Idealize.ShloMosaic Idealize.ShloMosaic.TcCoe
open Idealize.SL.Sem Idealize.ShloMosaic.StableHlo
open Cert.ReferenceIdeal.Value Cert.ReferenceIdeal.Lookup

/-- A vector's values sorted from the largest down, and the indices that sort it. -/
abbrev sorted (x : FVec Ideal S100000 .f32) : FVec Ideal S100000 .f32 × IVec S100000 32 :=
  Host.topK S100000 0 (FloatOps.cmpfTotal .gt) x sliceFits_S100000_S100000

section Tail

variable (W : Valuation τ sig (Elt Ideal))

/-- The operations after the region: the column as a vector, -/
theorem tail_v128 : after hostOps1 W (Proc.devRef .tc main_v128)
    = shapeCast S100000 (W (Proc.devRef .tc main_v127)) shapeCasts_S100000x1_S100000 := by
  after_results_simp
  rfl

/-- its values sorted, -/
theorem tail_values : after hostOps1 W (Proc.devRef .tc main_values)
    = (sorted (after hostOps1 W (Proc.devRef .tc main_v128))).1 := by
  after_results_simp

/-- and the indices that sort it. -/
theorem tail_indices : after hostOps1 W (Proc.devRef .tc main_indices)
    = (sorted (after hostOps1 W (Proc.devRef .tc main_v128))).2 := by
  after_results_simp

end Tail

variable (m : (ℓ : Loc nD τ sig) → Buf (Elt Ideal) ℓ) (ρ : Dev nD → PrngReg)

/-- What the kernel leaves in the vector: the column of the table's row sums. -/
theorem v128_eq (c : Dev nD) : Pipeline.afterTail₀ cfgs (dats m) 0 (V0 m) [hostOps1] c main_v128
    = shapeCast S100000 (Region.rowSums (Region.table m c)) shapeCasts_S100000x1_S100000 := by
  refine (tail_v128 _).trans (congrArg (fun x => shapeCast S100000 x shapeCasts_S100000x1_S100000) ?_)
  exact (Pipeline.withArrays_arr spec0 (by decide) c (V0 m c) (fun w => (dats m 0 c).arrAt w cfg0.N) 1).trans (Region.final m c)

/-- On the reference's arguments it is the reference's first result. -/
theorem v128_ref (c : Dev nD) (A : Valuation Cert.ReferenceIdeal.τ Cert.ReferenceIdeal.sig (Elt Ideal))
    (h : Host.Agree (fun b => m (c, b)) A) :
    Pipeline.afterTail₀ cfgs (dats m) 0 (V0 m) [hostOps1] c main_v128 = res_main_v103 A :=
  (v128_eq m c).trans ((congrArg (fun X => shapeCast S100000 (Region.rowSums X) shapeCasts_S100000x1_S100000) (Host.table_eq _ A h)).trans
    ((Region.column_eq (grad A)).trans (v103_eq A).symm))

/-- THE KERNEL'S RUN: on the reference's arguments its three results are the reference's, and the arguments are as they were. -/
theorem run (A : Dev nD → Valuation Cert.ReferenceIdeal.τ Cert.ReferenceIdeal.sig (Elt Ideal))
    (hA : ∀ c, Host.Agree (fun b => m (c, b)) (A c)) :
    θ_run defs (onTc (τ := τ) (main (F := Ideal))) ⟨m, fun _ => 0, ρ⟩ fun r => ∀ c : Dev nD,
      r.2.mem ((c.tc : Thread nD τ).loc main_v128) = res_main_v103 (A c)
      ∧ r.2.mem ((c.tc : Thread nD τ).loc main_values) = (sorted (res_main_v103 (A c))).1
      ∧ r.2.mem ((c.tc : Thread nD τ).loc main_indices) = (sorted (res_main_v103 (A c))).2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    have e := v128_ref m c (A c) (hA c)
    ⟨((h.1 c).2 main_v128 (Pipeline.mem_restRefs_of main_v128 (by decide) (by decide))).trans e,
      ((h.1 c).2 main_values (Pipeline.mem_restRefs_of main_values (by decide) (by decide))).trans ((tail_values _).trans
        (congrArg (fun x => (sorted x).1) e)),
      ((h.1 c).2 main_indices (Pipeline.mem_restRefs_of main_indices (by decide) (by decide))).trans ((tail_indices _).trans
        (congrArg (fun x => (sorted x).2) e)), h.2 c⟩)
    (θ_run_and (run_main m ρ) (unchanged m ρ))

end Cert.KernelIdeal.Outcome

end
-- ==== Proof.lean ====
/- THE CLAIM, ASSEMBLED.  The two frames of the kernel, the frame of the reference, the idealization that changes nothing, and the
   equation: on the same arguments the kernel and the reference end with the same three results — every entity's sum of absolute
   gradient entries, those sums sorted from the largest down, and the indices that sort them. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Outcome
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- THE REFERENCE'S FRAME: its arguments end as they were, and no counter is left up. -/
theorem reference_frame [Cert.ReferenceIdeal.Facts] : Cert.quiescent_ReferenceIdeal := fun m ρ _ =>
  (θ_run Cert.ReferenceIdeal.defs _ _).mono
    (fun r h => ⟨fun c => (h c).2.2.2, sem_eq_zero_of_no_sems (by decide) r.2⟩) (Cert.ReferenceIdeal.Value.run m ρ)

/-- THE EQUATION: over the extended reals the kernel's three results are the reference's. -/
theorem same_results : Cert.algebraic_KernelIdeal_ReferenceIdeal (hKernelIdeal := Cert.KernelIdeal.Gen.facts)
    (hReferenceIdeal := Cert.ReferenceIdeal.Gen.facts) := fun m ρ m' ρ' _ hargs =>
  have k := Cert.KernelIdeal.Outcome.run m ρ (fun c => StableHlo.launchContents m' c) fun c =>
    ⟨(hargs c).1.symm, (hargs c).2.1.symm, (hargs c).2.2.1.symm, (hargs c).2.2.2.1.symm, (hargs c).2.2.2.2.1.symm, (hargs c).2.2.2.2.2.symm⟩
  have r := Cert.ReferenceIdeal.Value.run m' ρ'
  ⟨fun c => Cert.ReferenceIdeal.Value.res_main_v103 (StableHlo.launchContents m' c),
    fun c => (Cert.KernelIdeal.Outcome.sorted (Cert.ReferenceIdeal.Value.res_main_v103 (StableHlo.launchContents m' c))).1,
    fun c => (Cert.KernelIdeal.Outcome.sorted (Cert.ReferenceIdeal.Value.res_main_v103 (StableHlo.launchContents m' c))).2, k, r⟩

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  reference_frame, trivial, same_results⟩

end Cert.Proof

end
